-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x128x2048 : Shape := ⟨3, ![16, 128, 2048]⟩
abbrev S16 : Shape := ⟨1, ![16]⟩
abbrev S512x128x4 : Shape := ⟨3, ![512, 128, 4]⟩
abbrev S512 : Shape := ⟨1, ![512]⟩
abbrev S512x512x4 : Shape := ⟨3, ![512, 512, 4]⟩
abbrev S512x64 : Shape := ⟨2, ![512, 64]⟩
abbrev S64 : Shape := ⟨1, ![64]⟩
abbrev S1024x64 : Shape := ⟨2, ![1024, 64]⟩
abbrev S_ : Shape := ⟨0, ![]⟩

class Facts : Prop where
  bcast_S_S16x128x2048 : S_.BroadcastsInDim S16x128x2048 (![] : Fin 0 → Fin S16x128x2048.rank)
  reducesTo_S16x128x2048_S_d0_1_2 : S16x128x2048.ReducesTo [0, 1, 2] S_
  h_S_ : 0 < S_.numel
  bcast_S_S512x128x4 : S_.BroadcastsInDim S512x128x4 (![] : Fin 0 → Fin S512x128x4.rank)
  reducesTo_S512x128x4_S_d0_1_2 : S512x128x4.ReducesTo [0, 1, 2] S_
  bcast_S_S512 : S_.BroadcastsInDim S512 (![] : Fin 0 → Fin S512.rank)
  reducesTo_S512_S_d0 : S512.ReducesTo [0] S_
  bcast_S_S512x512x4 : S_.BroadcastsInDim S512x512x4 (![] : Fin 0 → Fin S512x512x4.rank)
  reducesTo_S512x512x4_S_d0_1_2 : S512x512x4.ReducesTo [0, 1, 2] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S1024x64 : S_.BroadcastsInDim S1024x64 (![] : Fin 0 → Fin S1024x64.rank)
  reducesTo_S1024x64_S_d0_1 : S1024x64.ReducesTo [0, 1] S_

variable [Facts]

def fn_part2 {F : FTy → Type} [FloatOps F] (main_arg8 : FVec F S1024x64 .f32) (main_v33 : IVec S_ 1) : IVec S_ 1 :=
  let main_v34 : FVec F S1024x64 .f32 := Host.absf main_arg8
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  main_v38

def fn_part1 {F : FTy → Type} [FloatOps F] (main_arg5 : FVec F S512 .f32) (main_arg6 : FVec F S512x64 .f32) (main_arg7 : FVec F S64 .f32) (main_arg8 : FVec F S1024x64 .f32) (main_v13 : IVec S_ 1) (main_v16 : IVec S512x512x4 1) : IVec S_ 1 :=
  let main_c_5 : IVec S_ 1 := constantI S_ 1 1#1
  let main_v17 : IVec S_ 1 := (fun x v => Host.reduce IntOp.andi x v reducesTo_S512x512x4_S_d0_1_2 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg6
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S16x128x2048 .f32) (main_arg1 : IVec S16 32) (main_arg2 : FVec F S512x128x4 .f32) (main_arg3 : FVec F S512 .f32) (main_arg4 : FVec F S512x512x4 .f32) (main_arg5 : FVec F S512 .f32) (main_arg6 : FVec F S512x64 .f32) (main_arg7 : FVec F S64 .f32) (main_arg8 : FVec F S1024x64 .f32) : IVec S_ 1 :=
  let main_v0 : FVec F S16x128x2048 .f32 := Host.absf main_arg0
  let main_cst : FVec F S_ .f32 := constant S_ .f32 0x7F800000#32
  let main_v1 : FVec F S16x128x2048 .f32 := broadcastInDim S16x128x2048 ![] bcast_S_S16x128x2048 main_cst
  let main_v2 : IVec S16x128x2048 1 := cmpf .olt main_v0 main_v1
  let main_c : IVec S_ 1 := constantI S_ 1 1#1
  let main_v3 : IVec S_ 1 := (fun x v => Host.reduce IntOp.andi x v reducesTo_S16x128x2048_S_d0_1_2 h_S_) main_v2 main_c
  let main_v4 : FVec F S512x128x4 .f32 := Host.absf main_arg2
  let main_cst_0 : FVec F S_ .f32 := constant S_ .f32 0x7F800000#32
  let main_v5 : FVec F S512x128x4 .f32 := broadcastInDim S512x128x4 ![] bcast_S_S512x128x4 main_cst_0
  let main_v6 : IVec S512x128x4 1 := cmpf .olt main_v4 main_v5
  let main_c_1 : IVec S_ 1 := constantI S_ 1 1#1
  let main_v7 : IVec S_ 1 := (fun x v => Host.reduce IntOp.andi x v reducesTo_S512x128x4_S_d0_1_2 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512x4 .f32 := Host.absf main_arg4
  let main_cst_4 : FVec F S_ .f32 := constant S_ .f32 0x7F800000#32
  let main_v15 : FVec F S512x512x4 .f32 := broadcastInDim S512x512x4 ![] bcast_S_S512x512x4 main_cst_4
  let main_v16 : IVec S512x512x4 1 := cmpf .olt main_v14 main_v15
  fn_part1 (F := F) main_arg5 main_arg6 main_arg7 main_arg8 main_v13 main_v16
-- ==== Kernel.lean ====
abbrev S16x128x2048 : Shape := ⟨3, ![16, 128, 2048]⟩
abbrev S16 : Shape := ⟨1, ![16]⟩
abbrev S512x128x4 : Shape := ⟨3, ![512, 128, 4]⟩
abbrev S512 : Shape := ⟨1, ![512]⟩
abbrev S512x512x4 : Shape := ⟨3, ![512, 512, 4]⟩
abbrev S512x64 : Shape := ⟨2, ![512, 64]⟩
abbrev S64 : Shape := ⟨1, ![64]⟩
abbrev S1024x64 : Shape := ⟨2, ![1024, 64]⟩
abbrev S4x128x512 : Shape := ⟨3, ![4, 128, 512]⟩
abbrev S4x512x512 : Shape := ⟨3, ![4, 512, 512]⟩
abbrev S1x512 : Shape := ⟨2, ![1, 512]⟩
abbrev S1x64 : Shape := ⟨2, ![1, 64]⟩
abbrev S64x1024 : Shape := ⟨2, ![64, 1024]⟩
abbrev S16x1 : Shape := ⟨2, ![16, 1]⟩
abbrev S16x514x1 : Shape := ⟨3, ![16, 514, 1]⟩
abbrev S16x1x1 : Shape := ⟨3, ![16, 1, 1]⟩
abbrev S1x128x2048 : Shape := ⟨3, ![1, 128, 2048]⟩
abbrev S1x514x1 : Shape := ⟨3, ![1, 514, 1]⟩
abbrev S1x1x1 : Shape := ⟨3, ![1, 1, 1]⟩
abbrev S2048x128 : Shape := ⟨2, ![2048, 128]⟩
abbrev S4x1024x128 : Shape := ⟨3, ![4, 1024, 128]⟩
abbrev S128x2048 : Shape := ⟨2, ![128, 2048]⟩
abbrev S1024x128 : Shape := ⟨2, ![1024, 128]⟩
abbrev S1x128 : Shape := ⟨2, ![1, 128]⟩
abbrev S1023x128 : Shape := ⟨2, ![1023, 128]⟩
abbrev S1x128x512 : Shape := ⟨3, ![1, 128, 512]⟩
abbrev S128x512 : Shape := ⟨2, ![128, 512]⟩
abbrev S1024x512 : Shape := ⟨2, ![1024, 512]⟩
abbrev S1x1024x128 : Shape := ⟨3, ![1, 1024, 128]⟩
abbrev S1x512x128 : Shape := ⟨3, ![1, 512, 128]⟩
abbrev S512x128 : Shape := ⟨2, ![512, 128]⟩
abbrev S512x512 : Shape := ⟨2, ![512, 512]⟩
abbrev S511x512 : Shape := ⟨2, ![511, 512]⟩
abbrev S1x512x512 : Shape := ⟨3, ![1, 512, 512]⟩
abbrev S1024 : Shape := ⟨1, ![1024]⟩
abbrev S1x1024 : Shape := ⟨2, ![1, 1024]⟩
abbrev S512x1 : Shape := ⟨2, ![512, 1]⟩
abbrev S512x65 : Shape := ⟨2, ![512, 65]⟩
abbrev S65x1024 : Shape := ⟨2, ![65, 1024]⟩
abbrev S512x1024 : Shape := ⟨2, ![512, 1024]⟩
abbrev S1x1 : Shape := ⟨2, ![1, 1]⟩
abbrev S514x1 : Shape := ⟨2, ![514, 1]⟩
abbrev S16x514 : Shape := ⟨2, ![16, 514]⟩

abbrev nBuf : Space → Nat
  | .hbm => 20
  | .vmem => 16
  | .smem => 0
  | _ => 0

abbrev bufTy : (tb : Table) → Fin (tcTables nBuf tb) → BufTy
  | .hbm, ⟨0, _⟩ => ⟨S16x128x2048, .f32⟩
  | .hbm, ⟨1, _⟩ => ⟨S16, .i32⟩
  | .hbm, ⟨2, _⟩ => ⟨S512x128x4, .f32⟩
  | .hbm, ⟨3, _⟩ => ⟨S512, .f32⟩
  | .hbm, ⟨4, _⟩ => ⟨S512x512x4, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S1024x64, .f32⟩
  | .hbm, ⟨9, _⟩ => ⟨S4x128x512, .f32⟩
  | .hbm, ⟨10, _⟩ => ⟨S4x512x512, .f32⟩
  | .hbm, ⟨11, _⟩ => ⟨S1x512, .f32⟩
  | .hbm, ⟨12, _⟩ => ⟨S1x512, .f32⟩
  | .hbm, ⟨13, _⟩ => ⟨S1x64, .f32⟩
  | .hbm, ⟨14, _⟩ => ⟨S64x1024, .f32⟩
  | .hbm, ⟨15, _⟩ => ⟨S16x1, .i32⟩
  | .hbm, ⟨16, _⟩ => ⟨S16x514x1, .i32⟩
  | .hbm, ⟨17, _⟩ => ⟨S16x1x1, .i32⟩
  | .hbm, ⟨18, _⟩ => ⟨S16x514, .i32⟩
  | .hbm, ⟨19, _⟩ => ⟨S16, .i32⟩
  | .local _ .vmem, ⟨0, _⟩ => ⟨S1x128x2048, .f32⟩
  | .local _ .vmem, ⟨1, _⟩ => ⟨S1x128x2048, .f32⟩
  | .local _ .vmem, ⟨2, _⟩ => ⟨S4x128x512, .f32⟩
  | .local _ .vmem, ⟨3, _⟩ => ⟨S1x512, .f32⟩
  | .local _ .vmem, ⟨4, _⟩ => ⟨S4x512x512, .f32⟩
  | .local _ .vmem, ⟨5, _⟩ => ⟨S1x512, .f32⟩
  | .local _ .vmem, ⟨6, _⟩ => ⟨S512x64, .f32⟩
  | .local _ .vmem, ⟨7, _⟩ => ⟨S1x64, .f32⟩
  | .local _ .vmem, ⟨8, _⟩ => ⟨S64x1024, .f32⟩
  | .local _ .vmem, ⟨9, _⟩ => ⟨S16x1, .i32⟩
  | .local _ .vmem, ⟨10, _⟩ => ⟨S1x514x1, .i32⟩
  | .local _ .vmem, ⟨11, _⟩ => ⟨S1x514x1, .i32⟩
  | .local _ .vmem, ⟨12, _⟩ => ⟨S1x1x1, .i32⟩
  | .local _ .vmem, ⟨13, _⟩ => ⟨S1x1x1, .i32⟩
  | .local _ .vmem, ⟨14, _⟩ => ⟨S2048x128, .f32⟩
  | .local _ .vmem, ⟨15, _⟩ => ⟨S4x1024x128, .f32⟩
  | _, _ => ⟨S16x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v141 : Index := Scalar.indexCast arg0
  let c0_99 : Index := 0#32
  ![v141.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x514x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16x128x2048 : Shape := ⟨3, ![16, 128, 2048]⟩
abbrev S16 : Shape := ⟨1, ![16]⟩
abbrev S512x128x4 : Shape := ⟨3, ![512, 128, 4]⟩
abbrev S512 : Shape := ⟨1, ![512]⟩
abbrev S512x512x4 : Shape := ⟨3, ![512, 512, 4]⟩
abbrev S512x64 : Shape := ⟨2, ![512, 64]⟩
abbrev S64 : Shape := ⟨1, ![64]⟩
abbrev S1024x64 : Shape := ⟨2, ![1024, 64]⟩
abbrev S_ : Shape := ⟨0, ![]⟩
abbrev S16x128x2050 : Shape := ⟨3, ![16, 128, 2050]⟩
abbrev S16x128x1024 : Shape := ⟨3, ![16, 128, 1024]⟩
abbrev S512x128x1 : Shape := ⟨3, ![512, 128, 1]⟩
abbrev S512x128 : Shape := ⟨2, ![512, 128]⟩
abbrev S512x16x1024 : Shape := ⟨3, ![512, 16, 1024]⟩
abbrev S16x512x1024 : Shape := ⟨3, ![16, 512, 1024]⟩
abbrev S1x512x1 : Shape := ⟨3, ![1, 512, 1]⟩
abbrev S16x512x1026 : Shape := ⟨3, ![16, 512, 1026]⟩
abbrev S16x512x512 : Shape := ⟨3, ![16, 512, 512]⟩
abbrev S512x512x1 : Shape := ⟨3, ![512, 512, 1]⟩
abbrev S512x512 : Shape := ⟨2, ![512, 512]⟩
abbrev S512x16x512 : Shape := ⟨3, ![512, 16, 512]⟩
abbrev S16x512x64 : Shape := ⟨3, ![16, 512, 64]⟩
abbrev S1x1x64 : Shape := ⟨3, ![1, 1, 64]⟩
abbrev S16x512 : Shape := ⟨2, ![16, 512]⟩
abbrev S16x512x1 : Shape := ⟨3, ![16, 512, 1]⟩
abbrev S1024 : Shape := ⟨1, ![1024]⟩
abbrev S1x1x1024 : Shape := ⟨3, ![1, 1, 1024]⟩
abbrev S16x1 : Shape := ⟨2, ![16, 1]⟩
abbrev S16x513 : Shape := ⟨2, ![16, 513]⟩
abbrev S513 : Shape := ⟨1, ![513]⟩
abbrev S1x513 : Shape := ⟨2, ![1, 513]⟩
abbrev S16x514 : Shape := ⟨2, ![16, 514]⟩

abbrev nBuf : Space → Nat
  | .hbm => 179
  | .vmem => 0
  | .smem => 0
  | _ => 0

abbrev hbmTy0_0 (i : Nat) : BufTy := match i % 128 with
  | 0 => ⟨S16x128x2048, .f32⟩
  | 1 => ⟨S16, .i32⟩
  | 2 => ⟨S512x128x4, .f32⟩
  | 3 => ⟨S512, .f32⟩
  | 4 => ⟨S512x512x4, .f32⟩
  | 5 => ⟨S512, .f32⟩
  | 6 => ⟨S512x64, .f32⟩
  | 7 => ⟨S64, .f32⟩
  | 8 => ⟨S1024x64, .f32⟩
  | 9 => ⟨S_, .i32⟩
  | 10 => ⟨S_, .f32⟩
  | 11 => ⟨S16x128x2050, .f32⟩
  | 12 => ⟨S16x128x1024, .f32⟩
  | 13 => ⟨S512x128x1, .f32⟩
  | 14 => ⟨S512x128, .f32⟩
  | 15 => ⟨S512x16x1024, .f32⟩
  | 16 => ⟨S16x512x1024, .f32⟩
  | 17 => ⟨S_, .f32⟩
  | 18 => ⟨S16x512x1024, .f32⟩
  | 19 => ⟨S16x512x1024, .f32⟩
  | 20 => ⟨S16x128x1024, .f32⟩
  | 21 => ⟨S512x128x1, .f32⟩
  | 22 => ⟨S512x128, .f32⟩
  | 23 => ⟨S512x16x1024, .f32⟩
  | 24 => ⟨S16x512x1024, .f32⟩
  | 25 => ⟨S16x512x1024, .f32⟩
  | 26 => ⟨S16x128x1024, .f32⟩
  | 27 => ⟨S512x128x1, .f32⟩
  | 28 => ⟨S512x128, .f32⟩
  | 29 => ⟨S512x16x1024, .f32⟩
  | 30 => ⟨S16x512x1024, .f32⟩
  | 31 => ⟨S16x512x1024, .f32⟩
  | 32 => ⟨S16x128x1024, .f32⟩
  | 33 => ⟨S512x128x1, .f32⟩
  | 34 => ⟨S512x128, .f32⟩
  | 35 => ⟨S512x16x1024, .f32⟩
  | 36 => ⟨S16x512x1024, .f32⟩
  | 37 => ⟨S16x512x1024, .f32⟩
  | 38 => ⟨S1x512x1, .f32⟩
  | 39 => ⟨S16x512x1024, .f32⟩
  | 40 => ⟨S16x512x1024, .f32⟩
  | 41 => ⟨S16x512x1024, .f32⟩
  | 42 => ⟨S16x512x1024, .f32⟩
  | 43 => ⟨S_, .f32⟩
  | 44 => ⟨S16x512x1024, .f32⟩
  | 45 => ⟨S16x512x1024, .f32⟩
  | 46 => ⟨S16x512x1024, .f32⟩
  | 47 => ⟨S_, .f32⟩
  | 48 => ⟨S16x512x1024, .f32⟩
  | 49 => ⟨S16x512x1024, .f32⟩
  | 50 => ⟨S16x512x1024, .f32⟩
  | 51 => ⟨S_, .f32⟩
  | 52 => ⟨S16x512x1024, .f32⟩
  | 53 => ⟨S16x512x1024, .f32⟩
  | 54 => ⟨S_, .f32⟩
  | 55 => ⟨S16x512x1024, .f32⟩
  | 56 => ⟨S16x512x1024, .f32⟩
  | 57 => ⟨S16x512x1024, .f32⟩
  | 58 => ⟨S_, .i32⟩
  | 59 => ⟨S_, .f32⟩
  | 60 => ⟨S16x512x1026, .f32⟩
  | 61 => ⟨S16x512x512, .f32⟩
  | 62 => ⟨S512x512x1, .f32⟩
  | 63 => ⟨S512x512, .f32⟩
  | 64 => ⟨S512x16x512, .f32⟩
  | 65 => ⟨S16x512x512, .f32⟩
  | 66 => ⟨S_, .f32⟩
  | 67 => ⟨S16x512x512, .f32⟩
  | 68 => ⟨S16x512x512, .f32⟩
  | 69 => ⟨S16x512x512, .f32⟩
  | 70 => ⟨S512x512x1, .f32⟩
  | 71 => ⟨S512x512, .f32⟩
  | 72 => ⟨S512x16x512, .f32⟩
  | 73 => ⟨S16x512x512, .f32⟩
  | 74 => ⟨S16x512x512, .f32⟩
  | 75 => ⟨S16x512x512, .f32⟩
  | 76 => ⟨S512x512x1, .f32⟩
  | 77 => ⟨S512x512, .f32⟩
  | 78 => ⟨S512x16x512, .f32⟩
  | 79 => ⟨S16x512x512, .f32⟩
  | 80 => ⟨S16x512x512, .f32⟩
  | 81 => ⟨S16x512x512, .f32⟩
  | 82 => ⟨S512x512x1, .f32⟩
  | 83 => ⟨S512x512, .f32⟩
  | 84 => ⟨S512x16x512, .f32⟩
  | 85 => ⟨S16x512x512, .f32⟩
  | 86 => ⟨S16x512x512, .f32⟩
  | 87 => ⟨S1x512x1, .f32⟩
  | 88 => ⟨S16x512x512, .f32⟩
  | 89 => ⟨S16x512x512, .f32⟩
  | 90 => ⟨S16x512x512, .f32⟩
  | 91 => ⟨S16x512x512, .f32⟩
  | 92 => ⟨S_, .f32⟩
  | 93 => ⟨S16x512x512, .f32⟩
  | 94 => ⟨S16x512x512, .f32⟩
  | 95 => ⟨S16x512x512, .f32⟩
  | 96 => ⟨S_, .f32⟩
  | 97 => ⟨S16x512x512, .f32⟩
  | 98 => ⟨S16x512x512, .f32⟩
  | 99 => ⟨S16x512x512, .f32⟩
  | 100 => ⟨S_, .f32⟩
  | 101 => ⟨S16x512x512, .f32⟩
  | 102 => ⟨S16x512x512, .f32⟩
  | 103 => ⟨S_, .f32⟩
  | 104 => ⟨S16x512x512, .f32⟩
  | 105 => ⟨S16x512x512, .f32⟩
  | 106 => ⟨S16x512x512, .f32⟩
  | 107 => ⟨S16x512x64, .f32⟩
  | 108 => ⟨S1x1x64, .f32⟩
  | 109 => ⟨S16x512x64, .f32⟩
  | 110 => ⟨S16x512x64, .f32⟩
  | 111 => ⟨S16x512x64, .f32⟩
  | 112 => ⟨S_, .f32⟩
  | 113 => ⟨S16x512, .f32⟩
  | 114 => ⟨S16x512x1, .f32⟩
  | 115 => ⟨S16x512x1024, .f32⟩
  | 116 => ⟨S_, .f32⟩
  | 117 => ⟨S16x512x1024, .f32⟩
  | 118 => ⟨S16x512x1024, .f32⟩
  | 119 => ⟨S16x512x1024, .f32⟩
  | 120 => ⟨S16x512x1024, .f32⟩
  | 121 => ⟨S1024x64, .f32⟩
  | 122 => ⟨S_, .f32⟩
  | 123 => ⟨S1024, .f32⟩
  | 124 => ⟨S1x1x1024, .f32⟩
  | 125 => ⟨S16x512x1024, .f32⟩
  | 126 => ⟨S16x512x1024, .f32⟩
  | 127 => ⟨S16x512x1024, .i32⟩
  | _ => ⟨S16x128x2048, .f32⟩

abbrev hbmTy0_1 (i : Nat) : BufTy := match i % 128 with
  | 0 => ⟨S_, .f32⟩
  | 1 => ⟨S_, .i32⟩
  | 2 => ⟨S16x512, .f32⟩
  | 3 => ⟨S16x512, .i32⟩
  | 4 => ⟨S_, .i32⟩
  | 5 => ⟨S_, .i32⟩
  | 6 => ⟨S16, .i32⟩
  | 7 => ⟨S16, .i32⟩
  | 8 => ⟨S16, .i32⟩
  | 9 => ⟨S_, .i32⟩
  | 10 => ⟨S16, .i32⟩
  | 11 => ⟨S16, .i1⟩
  | 12 => ⟨S16, .i32⟩
  | 13 => ⟨S16, .i32⟩
  | 14 => ⟨S_, .i32⟩
  | 15 => ⟨S16, .i32⟩
  | 16 => ⟨S16, .i1⟩
  | 17 => ⟨S16, .i1⟩
  | 18 => ⟨S_, .i32⟩
  | 19 => ⟨S16, .i32⟩
  | 20 => ⟨S16, .i32⟩
  | 21 => ⟨S16, .i32⟩
  | 22 => ⟨S_, .i32⟩
  | 23 => ⟨S16x1, .i32⟩
  | 24 => ⟨S16x513, .i32⟩
  | 25 => ⟨S513, .i32⟩
  | 26 => ⟨S1x513, .i32⟩
  | 27 => ⟨S16x1, .i32⟩
  | 28 => ⟨S16x513, .i32⟩
  | 29 => ⟨S16x513, .i32⟩
  | 30 => ⟨S16x513, .i1⟩
  | 31 => ⟨S16x513, .i32⟩
  | 32 => ⟨S16x513, .i32⟩
  | 33 => ⟨S16x513, .i1⟩
  | 34 => ⟨S_, .i32⟩
  | 35 => ⟨S_, .i32⟩
  | 36 => ⟨S16x513, .i32⟩
  | 37 => ⟨S16x513, .i32⟩
  | 38 => ⟨S_, .i32⟩
  | 39 => ⟨S_, .i32⟩
  | 40 => ⟨S16x513, .i32⟩
  | 41 => ⟨S16x513, .i32⟩
  | 42 => ⟨S_, .i32⟩
  | 43 => ⟨S16x1, .i32⟩
  | 44 => ⟨S16x514, .i32⟩
  | 45 => ⟨S_, .i32⟩
  | 46 => ⟨S16, .i32⟩
  | 47 => ⟨S16, .i32⟩
  | 48 => ⟨S_, .i32⟩
  | 49 => ⟨S16, .i32⟩
  | 50 => ⟨S16, .i32⟩
  | _ => ⟨S16x128x2048, .f32⟩

abbrev hbmTy (i : Nat) : BufTy := match i / 128 with
  | 0 => hbmTy0_0 i
  | 1 => hbmTy0_1 i
  | _ => ⟨S16x128x2048, .f32⟩

abbrev bufTy : (tb : Table) → Fin (tcTables nBuf tb) → BufTy
  | .hbm, ⟨i, _⟩ => hbmTy i
  | _, _ => ⟨S16x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_4 : Ref sig .tc := ⟨.hbm, 58, rfl⟩
abbrev main_call1_v0 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_6 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_7 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_8 : Ref sig .tc := ⟨.hbm, 100, rfl⟩
abbrev main_v79 : Ref sig .tc := ⟨.hbm, 101, rfl⟩
abbrev main_v80 : Ref sig .tc := ⟨.hbm, 102, rfl⟩
abbrev main_cst_9 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_10 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_11 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_12 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_call2_v0 : Ref sig .tc := ⟨.hbm, 127, rfl⟩
abbrev main_call2_cst : Ref sig .tc := ⟨.hbm, 128, rfl⟩
abbrev main_call2_c : Ref sig .tc := ⟨.hbm, 129, rfl⟩
abbrev main_call2_v1_0 : Ref sig .tc := ⟨.hbm, 130, rfl⟩
abbrev main_v101 : Ref sig .tc := ⟨.hbm, 131, rfl⟩
abbrev main_c_13 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_v7 : Ref sig .tc := ⟨.hbm, 140, rfl⟩
abbrev main_call3_v8 : Ref sig .tc := ⟨.hbm, 141, rfl⟩
abbrev main_call3_c : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_call3_c_0 : Ref sig .tc := ⟨.hbm, 146, rfl⟩
abbrev main_call3_v12 : Ref sig .tc := ⟨.hbm, 147, rfl⟩
abbrev main_call3_v13 : Ref sig .tc := ⟨.hbm, 148, rfl⟩
abbrev main_v102 : Ref sig .tc := ⟨.hbm, 149, rfl⟩
abbrev main_c_14 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_c_15 : Ref sig .tc := ⟨.hbm, 162, rfl⟩
abbrev main_call4_v0 : Ref sig .tc := ⟨.hbm, 163, rfl⟩
abbrev main_call4_v1 : Ref sig .tc := ⟨.hbm, 164, rfl⟩
abbrev main_v114 : Ref sig .tc := ⟨.hbm, 165, rfl⟩
abbrev main_c_16 : Ref sig .tc := ⟨.hbm, 166, rfl⟩
abbrev main_call5_v0 : Ref sig .tc := ⟨.hbm, 167, rfl⟩
abbrev main_call5_v1 : Ref sig .tc := ⟨.hbm, 168, rfl⟩
abbrev main_v115 : Ref sig .tc := ⟨.hbm, 169, rfl⟩
abbrev main_c_17 : Ref sig .tc := ⟨.hbm, 170, rfl⟩
abbrev main_v116 : Ref sig .tc := ⟨.hbm, 171, rfl⟩
abbrev main_v117 : Ref sig .tc := ⟨.hbm, 172, rfl⟩
abbrev main_c_18 : Ref sig .tc := ⟨.hbm, 173, rfl⟩
abbrev main_v118 : Ref sig .tc := ⟨.hbm, 174, rfl⟩
abbrev main_v119 : Ref sig .tc := ⟨.hbm, 175, rfl⟩
abbrev main_c_19 : Ref sig .tc := ⟨.hbm, 176, rfl⟩
abbrev main_v120 : Ref sig .tc := ⟨.hbm, 177, rfl⟩
abbrev main_v121 : Ref sig .tc := ⟨.hbm, 178, rfl⟩

abbrev nD : Nat := 1
abbrev τ : Topo := Topo.v7x

variable {F : FTy → Type} [FloatOps F]
-- ==== Proof.RefRun.lean ====
/-
  The reference program as a list of its host operations, cut into stages: the first convolution, its gelu, the second
  convolution, its gelu, the projection to codes, the distances, the nearest code, the floor division of the lengths, the
  placing of the tokens, the lengths. `run` says what every execution of the program leaves in the two results.
-/
module

public import proofs.«01_k».proof.Proof.Gen.ReferenceIdeal
public import Idealize.ShloMosaic.Lib.StableHlo.RunRead
public import Idealize.ShloMosaic.Lib.StableHlo.RunHlo
public import Idealize.ShloMosaic.Lib.Pipeline.Frame

@[expose] public section

set_option maxRecDepth 16384
set_option Elab.async false

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-- The operations of stage `conv1`. -/
abbrev ops_conv1 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S16x128x2048, .f32⟩) main_arg0) (TRef.of (T := ⟨S_, .f32⟩) main_call0_v0) (TRef.of (T := ⟨S16x128x2050, .f32⟩) main_v0) (fun x v => pad S16x128x2050 ![0, 0, 1] ![0, 0, 1] ![0, 0, 0] x v pads_S16x128x2048_S16x128x2050_000_000_110 h_S_),
    unary main_v0 main_v1 ((Host.slice S16x128x1024 ![0, 0, 0] ![1, 1, 2] · slicesBy_S16x128x2050_S16x128x1024_0s1_0s1_0s2) : (⟨S16x128x2050, .f32⟩ : BufTy).Contents (Elt F) → (⟨S16x128x1024, .f32⟩ : BufTy).Contents (Elt F)),
    unary main_arg2 main_v2 ((extractStridedSlice S512x128x1 ![0, 0, 0] · slices_S512x128x4_S512x128x1_0_0_0) : (⟨S512x128x4, .f32⟩ : BufTy).Contents (Elt F) → (⟨S512x128x1, .f32⟩ : BufTy).Contents (Elt F)),
    reshape main_v2 main_v3 (rfl : (.f32 : EltTy) = .f32) shapeCasts_S512x128x1_S512x128,
    binary main_v3 main_v1 main_v4 ((fun l r => Host.dotGeneral dot_S512x128_S16x128x1024_S512x16x1024_1_1_0_02_n_n none l r) : (⟨S512x128, .f32⟩ : BufTy).Contents (Elt F) → (⟨S16x128x1024, .f32⟩ : BufTy).Contents (Elt F) → (⟨S512x16x1024, .f32⟩ : BufTy).Contents (Elt F)),
    unary main_v4 main_v5 ((transpose S16x512x1024 [1, 0, 2] · transposes_S512x16x1024_S16x512x1024_1_0_2) : (⟨S512x16x1024, .f32⟩ : BufTy).Contents (Elt F) → (⟨S16x512x1024, .f32⟩ : BufTy).Contents (Elt F)),
    nullary main_cst (constant S_ .f32 0x00000000#32),
    unary main_cst main_v6 (broadcastInDim S16x512x1024 ![] bcast_S_S16x512x1024 : (⟨S_, .f32⟩ : BufTy).Contents (Elt F) → (⟨S16x512x1024, .f32⟩ : BufTy).Contents (Elt F)),
    binary main_v6 main_v5 main_v7 (addf : (⟨S16x512x1024, .f32⟩ : BufTy).Contents (Elt F) → (⟨S16x512x1024, .f32⟩ : BufTy).Contents (Elt F) → (⟨S16x512x1024, .f32⟩ : BufTy).Contents (Elt F)),
    unary main_v0 main_v8 ((Host.slice S16x128x1024 ![0, 0, 1] ![1, 1, 2] · slicesBy_S16x128x2050_S16x128x1024_0s1_0s1_1s2) : (⟨S16x128x2050, .f32⟩ : BufTy).Contents (Elt F) → (⟨S16x128x1024, .f32⟩ : BufTy).Contents (Elt F)),
    unary main_arg2 main_v9 ((extractStridedSlice S512x128x1 ![0, 0, 1] · slices_S512x128x4_S512x128x1_0_0_1) : (⟨S512x128x4, .f32⟩ : BufTy).Contents (Elt F) → (⟨S512x128x1, .f32⟩ : BufTy).Contents (Elt F)),
    reshape main_v9 main_v10 (rfl : (.f32 : EltTy) = .f32) shapeCasts_S512x128x1_S512x128,
    binary main_v10 main_v8 main_v11 ((fun l r => Host.dotGeneral dot_S512x128_S16x128x1024_S512x16x1024_1_1_0_02_n_n none l r) : (⟨S512x128, .f32⟩ : BufTy).Contents (Elt F) → (⟨S16x128x1024, .f32⟩ : BufTy).Contents (Elt F) → (⟨S512x16x1024, .f32⟩ : BufTy).Contents (Elt F)),
    unary main_v11 main_v12 ((transpose S16x512x1024 [1, 0, 2] · transposes_S512x16x1024_S16x512x1024_1_0_2) : (⟨S512x16x1024, .f32⟩ : BufTy).Contents (Elt F) → (⟨S16x512x1024, .f32⟩ : BufTy).Contents (Elt F)),
    binary main_v7 main_v12 main_v13 (addf : (⟨S16x512x1024, .f32⟩ : BufTy).Contents (Elt F) → (⟨S16x512x1024, .f32⟩ : BufTy).Contents (Elt F) → (⟨S16x512x1024, .f32⟩ : BufTy).Contents (Elt F)),
    unary main_v0 main_v14 ((Host.slice S16x128x1024 ![0, 0, 2] ![1, 1, 2] · slicesBy_S16x128x2050_S16x128x1024_0s1_0s1_2s2) : (⟨S16x128x2050, .f32⟩ : BufTy).Contents (Elt F) → (⟨S16x128x1024, .f32⟩ : BufTy).Contents (Elt F)),
    unary main_arg2 main_v15 ((extractStridedSlice S512x128x1 ![0, 0, 2] · slices_S512x128x4_S512x128x1_0_0_2) : (⟨S512x128x4, .f32⟩ : BufTy).Contents (Elt F) → (⟨S512x128x1, .f32⟩ : BufTy).Contents (Elt F)),
    reshape main_v15 main_v16 (rfl : (.f32 : EltTy) = .f32) shapeCasts_S512x128x1_S512x128,
    binary main_v16 main_v14 main_v17 ((fun l r => Host.dotGeneral dot_S512x128_S16x128x1024_S512x16x1024_1_1_0_02_n_n none l r) : (⟨S512x128, .f32⟩ : BufTy).Contents (Elt F) → (⟨S16x128x1024, .f32⟩ : BufTy).Contents (Elt F) → (⟨S512x16x1024, .f32⟩ : BufTy).Contents (Elt F)),
    unary main_v17 main_v18 ((transpose S16x512x1024 [1, 0, 2] · transposes_S512x16x1024_S16x512x1024_1_0_2) : (⟨S512x16x1024, .f32⟩ : BufTy).Contents (Elt F) → (⟨S16x512x1024, .f32⟩ : BufTy).Contents (Elt F)),
    binary main_v13 main_v18 main_v19 (addf : (⟨S16x512x1024, .f32⟩ : BufTy).Contents (Elt F) → (⟨S16x512x1024, .f32⟩ : BufTy).Contents (Elt F) → (⟨S16x512x1024, .f32⟩ : BufTy).Contents (Elt F)),
    unary main_v0 main_v20 ((Host.slice S16x128x1024 ![0, 0, 3] ![1, 1, 2] · slicesBy_S16x128x2050_S16x128x1024_0s1_0s1_3s2) : (⟨S16x128x2050, .f32⟩ : BufTy).Contents (Elt F) → (⟨S16x128x1024, .f32⟩ : BufTy).Contents (Elt F)),
    unary main_arg2 main_v21 ((extractStridedSlice S512x128x1 ![0, 0, 3] · slices_S512x128x4_S512x128x1_0_0_3) : (⟨S512x128x4, .f32⟩ : BufTy).Contents (Elt F) → (⟨S512x128x1, .f32⟩ : BufTy).Contents (Elt F)),
    reshape main_v21 main_v22 (rfl : (.f32 : EltTy) = .f32) shapeCasts_S512x128x1_S512x128,
    binary main_v22 main_v20 main_v23 ((fun l r => Host.dotGeneral dot_S512x128_S16x128x1024_S512x16x1024_1_1_0_02_n_n none l r) : (⟨S512x128, .f32⟩ : BufTy).Contents (Elt F) → (⟨S16x128x1024, .f32⟩ : BufTy).Contents (Elt F) → (⟨S512x16x1024, .f32⟩ : BufTy).Contents (Elt F)),
    unary main_v23 main_v24 ((transpose S16x512x1024 [1, 0, 2] · transposes_S512x16x1024_S16x512x1024_1_0_2) : (⟨S512x16x1024, .f32⟩ : BufTy).Contents (Elt F) → (⟨S16x512x1024, .f32⟩ : BufTy).Contents (Elt F)),
    binary main_v19 main_v24 main_v25 (addf : (⟨S16x512x1024, .f32⟩ : BufTy).Contents (Elt F) → (⟨S16x512x1024, .f32⟩ : BufTy).Contents (Elt F) → (⟨S16x512x1024, .f32⟩ : BufTy).Contents (Elt F)),
    unary main_arg3 main_v26 (broadcastInDim S1x512x1 ![1] bcast_S512_S1x512x1_1 : (⟨S512, .f32⟩ : BufTy).Contents (Elt F) → (⟨S1x512x1, .f32⟩ : BufTy).Contents (Elt F)),
    unary main_v26 main_v27 (broadcastInDim S16x512x1024 ![0, 1, 2] bcast_S1x512x1_S16x512x1024_0_1_2 : (⟨S1x512x1, .f32⟩ : BufTy).Contents (Elt F) → (⟨S16x512x1024, .f32⟩ : BufTy).Contents (Elt F)),
    binary main_v25 main_v27 main_v28 (addf : (⟨S16x512x1024, .f32⟩ : BufTy).Contents (Elt F) → (⟨S16x512x1024, .f32⟩ : BufTy).Contents (Elt F) → (⟨S16x512x1024, .f32⟩ : BufTy).Contents (Elt F)) ]

/-- The operations of stage `gelu1`. -/
abbrev ops_gelu1 : List (HloOp τ sig (Elt F)) :=
  [ binary main_v28 main_v28 main_v29 (mulf : (⟨S16x512x1024, .f32⟩ : BufTy).Contents (Elt F) → (⟨S16x512x1024, .f32⟩ : BufTy).Contents (Elt F) → (⟨S16x512x1024, .f32⟩ : BufTy).Contents (Elt F)),
    binary main_v29 main_v28 main_v30 (mulf : (⟨S16x512x1024, .f32⟩ : BufTy).Contents (Elt F) → (⟨S16x512x1024, .f32⟩ : BufTy).Contents (Elt F) → (⟨S16x512x1024, .f32⟩ : BufTy).Contents (Elt F)),
    nullary main_cst_0 (constant S_ .f32 0x3D372713#32),
    unary main_cst_0 main_v31 (broadcastInDim S16x512x1024 ![] bcast_S_S16x512x1024 : (⟨S_, .f32⟩ : BufTy).Contents (Elt F) → (⟨S16x512x1024, .f32⟩ : BufTy).Contents (Elt F)),
    binary main_v31 main_v30 main_v32 (mulf : (⟨S16x512x1024, .f32⟩ : BufTy).Contents (Elt F) → (⟨S16x512x1024, .f32⟩ : BufTy).Contents (Elt F) → (⟨S16x512x1024, .f32⟩ : BufTy).Contents (Elt F)),
    binary main_v28 main_v32 main_v33 (addf : (⟨S16x512x1024, .f32⟩ : BufTy).Contents (Elt F) → (⟨S16x512x1024, .f32⟩ : BufTy).Contents (Elt F) → (⟨S16x512x1024, .f32⟩ : BufTy).Contents (Elt F)),
    nullary main_cst_1 (constant S_ .f32 0x3F4C422A#32),
    unary main_cst_1 main_v34 (broadcastInDim S16x512x1024 ![] bcast_S_S16x512x1024 : (⟨S_, .f32⟩ : BufTy).Contents (Elt F) → (⟨S16x512x1024, .f32⟩ : BufTy).Contents (Elt F)),
    binary main_v34 main_v33 main_v35 (mulf : (⟨S16x512x1024, .f32⟩ : BufTy).Contents (Elt F) → (⟨S16x512x1024, .f32⟩ : BufTy).Contents (Elt F) → (⟨S16x512x1024, .f32⟩ : BufTy).Contents (Elt F)),
    unary main_v35 main_v36 (Host.tanh : (⟨S16x512x1024, .f32⟩ : BufTy).Contents (Elt F) → (⟨S16x512x1024, .f32⟩ : BufTy).Contents (Elt F)),
    nullary main_cst_2 (constant S_ .f32 0x3F800000#32),
    unary main_cst_2 main_v37 (broadcastInDim S16x512x1024 ![] bcast_S_S16x512x1024 : (⟨S_, .f32⟩ : BufTy).Contents (Elt F) → (⟨S16x512x1024, .f32⟩ : BufTy).Contents (Elt F)),
    binary main_v37 main_v36 main_v38 (addf : (⟨S16x512x1024, .f32⟩ : BufTy).Contents (Elt F) → (⟨S16x512x1024, .f32⟩ : BufTy).Contents (Elt F) → (⟨S16x512x1024, .f32⟩ : BufTy).Contents (Elt F)),
    nullary main_cst_3 (constant S_ .f32 0x3F000000#32),
    unary main_cst_3 main_v39 (broadcastInDim S16x512x1024 ![] bcast_S_S16x512x1024 : (⟨S_, .f32⟩ : BufTy).Contents (Elt F) → (⟨S16x512x1024, .f32⟩ : BufTy).Contents (Elt F)),
    binary main_v39 main_v38 main_v40 (mulf : (⟨S16x512x1024, .f32⟩ : BufTy).Contents (Elt F) → (⟨S16x512x1024, .f32⟩ : BufTy).Contents (Elt F) → (⟨S16x512x1024, .f32⟩ : BufTy).Contents (Elt F)),
    binary main_v28 main_v40 main_v41 (mulf : (⟨S16x512x1024, .f32⟩ : BufTy).Contents (Elt F) → (⟨S16x512x1024, .f32⟩ : BufTy).Contents (Elt F) → (⟨S16x512x1024, .f32⟩ : BufTy).Contents (Elt F)) ]

/-- The operations of stage `conv2a`. -/
abbrev ops_conv2a : List (HloOp τ sig (Elt F)) :=
  [ nullary main_c_4 (constantI S_ 32 0#32),
    TRef.unary (TRef.of (T := ⟨S_, .i32⟩) main_c_4) (TRef.of (T := ⟨S_, .f32⟩) main_call1_v0) (sitofp .f32),
    TRef.binary (TRef.of (T := ⟨S16x512x1024, .f32⟩) main_v41) (TRef.of (T := ⟨S_, .f32⟩) main_call1_v0) (TRef.of (T := ⟨S16x512x1026, .f32⟩) main_v42) (fun x v => pad S16x512x1026 ![0, 0, 1] ![0, 0, 1] ![0, 0, 0] x v pads_S16x512x1024_S16x512x1026_000_000_110 h_S_),
    unary main_v42 main_v43 ((Host.slice S16x512x512 ![0, 0, 0] ![1, 1, 2] · slicesBy_S16x512x1026_S16x512x512_0s1_0s1_0s2) : (⟨S16x512x1026, .f32⟩ : BufTy).Contents (Elt F) → (⟨S16x512x512, .f32⟩ : BufTy).Contents (Elt F)),
    unary main_arg4 main_v44 ((extractStridedSlice S512x512x1 ![0, 0, 0] · slices_S512x512x4_S512x512x1_0_0_0) : (⟨S512x512x4, .f32⟩ : BufTy).Contents (Elt F) → (⟨S512x512x1, .f32⟩ : BufTy).Contents (Elt F)),
    reshape main_v44 main_v45 (rfl : (.f32 : EltTy) = .f32) shapeCasts_S512x512x1_S512x512,
    binary main_v45 main_v43 main_v46 ((fun l r => Host.dotGeneral dot_S512x512_S16x512x512_S512x16x512_1_1_0_02_n_n none l r) : (⟨S512x512, .f32⟩ : BufTy).Contents (Elt F) → (⟨S16x512x512, .f32⟩ : BufTy).Contents (Elt F) → (⟨S512x16x512, .f32⟩ : BufTy).Contents (Elt F)),
    unary main_v46 main_v47 ((transpose S16x512x512 [1, 0, 2] · transposes_S512x16x512_S16x512x512_1_0_2) : (⟨S512x16x512, .f32⟩ : BufTy).Contents (Elt F) → (⟨S16x512x512, .f32⟩ : BufTy).Contents (Elt F)),
    nullary main_cst_5 (constant S_ .f32 0x00000000#32),
    unary main_cst_5 main_v48 (broadcastInDim S16x512x512 ![] bcast_S_S16x512x512 : (⟨S_, .f32⟩ : BufTy).Contents (Elt F) → (⟨S16x512x512, .f32⟩ : BufTy).Contents (Elt F)),
    binary main_v48 main_v47 main_v49 (addf : (⟨S16x512x512, .f32⟩ : BufTy).Contents (Elt F) → (⟨S16x512x512, .f32⟩ : BufTy).Contents (Elt F) → (⟨S16x512x512, .f32⟩ : BufTy).Contents (Elt F)),
    unary main_v42 main_v50 ((Host.slice S16x512x512 ![0, 0, 1] ![1, 1, 2] · slicesBy_S16x512x1026_S16x512x512_0s1_0s1_1s2) : (⟨S16x512x1026, .f32⟩ : BufTy).Contents (Elt F) → (⟨S16x512x512, .f32⟩ : BufTy).Contents (Elt F)),
    unary main_arg4 main_v51 ((extractStridedSlice S512x512x1 ![0, 0, 1] · slices_S512x512x4_S512x512x1_0_0_1) : (⟨S512x512x4, .f32⟩ : BufTy).Contents (Elt F) → (⟨S512x512x1, .f32⟩ : BufTy).Contents (Elt F)) ]

/-- The operations of stage `conv2b`. -/
abbrev ops_conv2b : List (HloOp τ sig (Elt F)) :=
  [ reshape main_v51 main_v52 (rfl : (.f32 : EltTy) = .f32) shapeCasts_S512x512x1_S512x512,
    binary main_v52 main_v50 main_v53 ((fun l r => Host.dotGeneral dot_S512x512_S16x512x512_S512x16x512_1_1_0_02_n_n none l r) : (⟨S512x512, .f32⟩ : BufTy).Contents (Elt F) → (⟨S16x512x512, .f32⟩ : BufTy).Contents (Elt F) → (⟨S512x16x512, .f32⟩ : BufTy).Contents (Elt F)),
    unary main_v53 main_v54 ((transpose S16x512x512 [1, 0, 2] · transposes_S512x16x512_S16x512x512_1_0_2) : (⟨S512x16x512, .f32⟩ : BufTy).Contents (Elt F) → (⟨S16x512x512, .f32⟩ : BufTy).Contents (Elt F)),
    binary main_v49 main_v54 main_v55 (addf : (⟨S16x512x512, .f32⟩ : BufTy).Contents (Elt F) → (⟨S16x512x512, .f32⟩ : BufTy).Contents (Elt F) → (⟨S16x512x512, .f32⟩ : BufTy).Contents (Elt F)),
    unary main_v42 main_v56 ((Host.slice S16x512x512 ![0, 0, 2] ![1, 1, 2] · slicesBy_S16x512x1026_S16x512x512_0s1_0s1_2s2) : (⟨S16x512x1026, .f32⟩ : BufTy).Contents (Elt F) → (⟨S16x512x512, .f32⟩ : BufTy).Contents (Elt F)),
    unary main_arg4 main_v57 ((extractStridedSlice S512x512x1 ![0, 0, 2] · slices_S512x512x4_S512x512x1_0_0_2) : (⟨S512x512x4, .f32⟩ : BufTy).Contents (Elt F) → (⟨S512x512x1, .f32⟩ : BufTy).Contents (Elt F)),
    reshape main_v57 main_v58 (rfl : (.f32 : EltTy) = .f32) shapeCasts_S512x512x1_S512x512,
    binary main_v58 main_v56 main_v59 ((fun l r => Host.dotGeneral dot_S512x512_S16x512x512_S512x16x512_1_1_0_02_n_n none l r) : (⟨S512x512, .f32⟩ : BufTy).Contents (Elt F) → (⟨S16x512x512, .f32⟩ : BufTy).Contents (Elt F) → (⟨S512x16x512, .f32⟩ : BufTy).Contents (Elt F)),
    unary main_v59 main_v60 ((transpose S16x512x512 [1, 0, 2] · transposes_S512x16x512_S16x512x512_1_0_2) : (⟨S512x16x512, .f32⟩ : BufTy).Contents (Elt F) → (⟨S16x512x512, .f32⟩ : BufTy).Contents (Elt F)),
    binary main_v55 main_v60 main_v61 (addf : (⟨S16x512x512, .f32⟩ : BufTy).Contents (Elt F) → (⟨S16x512x512, .f32⟩ : BufTy).Contents (Elt F) → (⟨S16x512x512, .f32⟩ : BufTy).Contents (Elt F)),
    unary main_v42 main_v62 ((Host.slice S16x512x512 ![0, 0, 3] ![1, 1, 2] · slicesBy_S16x512x1026_S16x512x512_0s1_0s1_3s2) : (⟨S16x512x1026, .f32⟩ : BufTy).Contents (Elt F) → (⟨S16x512x512, .f32⟩ : BufTy).Contents (Elt F)),
    unary main_arg4 main_v63 ((extractStridedSlice S512x512x1 ![0, 0, 3] · slices_S512x512x4_S512x512x1_0_0_3) : (⟨S512x512x4, .f32⟩ : BufTy).Contents (Elt F) → (⟨S512x512x1, .f32⟩ : BufTy).Contents (Elt F)),
    reshape main_v63 main_v64 (rfl : (.f32 : EltTy) = .f32) shapeCasts_S512x512x1_S512x512,
    binary main_v64 main_v62 main_v65 ((fun l r => Host.dotGeneral dot_S512x512_S16x512x512_S512x16x512_1_1_0_02_n_n none l r) : (⟨S512x512, .f32⟩ : BufTy).Contents (Elt F) → (⟨S16x512x512, .f32⟩ : BufTy).Contents (Elt F) → (⟨S512x16x512, .f32⟩ : BufTy).Contents (Elt F)),
    unary main_v65 main_v66 ((transpose S16x512x512 [1, 0, 2] · transposes_S512x16x512_S16x512x512_1_0_2) : (⟨S512x16x512, .f32⟩ : BufTy).Contents (Elt F) → (⟨S16x512x512, .f32⟩ : BufTy).Contents (Elt F)),
    binary main_v61 main_v66 main_v67 (addf : (⟨S16x512x512, .f32⟩ : BufTy).Contents (Elt F) → (⟨S16x512x512, .f32⟩ : BufTy).Contents (Elt F) → (⟨S16x512x512, .f32⟩ : BufTy).Contents (Elt F)),
    unary main_arg5 main_v68 (broadcastInDim S1x512x1 ![1] bcast_S512_S1x512x1_1 : (⟨S512, .f32⟩ : BufTy).Contents (Elt F) → (⟨S1x512x1, .f32⟩ : BufTy).Contents (Elt F)),
    unary main_v68 main_v69 (broadcastInDim S16x512x512 ![0, 1, 2] bcast_S1x512x1_S16x512x512_0_1_2 : (⟨S1x512x1, .f32⟩ : BufTy).Contents (Elt F) → (⟨S16x512x512, .f32⟩ : BufTy).Contents (Elt F)),
    binary main_v67 main_v69 main_v70 (addf : (⟨S16x512x512, .f32⟩ : BufTy).Contents (Elt F) → (⟨S16x512x512, .f32⟩ : BufTy).Contents (Elt F) → (⟨S16x512x512, .f32⟩ : BufTy).Contents (Elt F)) ]

/-- The operations of stage `gelu2`. -/
abbrev ops_gelu2 : List (HloOp τ sig (Elt F)) :=
  [ binary main_v70 main_v70 main_v71 (mulf : (⟨S16x512x512, .f32⟩ : BufTy).Contents (Elt F) → (⟨S16x512x512, .f32⟩ : BufTy).Contents (Elt F) → (⟨S16x512x512, .f32⟩ : BufTy).Contents (Elt F)),
    binary main_v71 main_v70 main_v72 (mulf : (⟨S16x512x512, .f32⟩ : BufTy).Contents (Elt F) → (⟨S16x512x512, .f32⟩ : BufTy).Contents (Elt F) → (⟨S16x512x512, .f32⟩ : BufTy).Contents (Elt F)),
    nullary main_cst_6 (constant S_ .f32 0x3D372713#32),
    unary main_cst_6 main_v73 (broadcastInDim S16x512x512 ![] bcast_S_S16x512x512 : (⟨S_, .f32⟩ : BufTy).Contents (Elt F) → (⟨S16x512x512, .f32⟩ : BufTy).Contents (Elt F)),
    binary main_v73 main_v72 main_v74 (mulf : (⟨S16x512x512, .f32⟩ : BufTy).Contents (Elt F) → (⟨S16x512x512, .f32⟩ : BufTy).Contents (Elt F) → (⟨S16x512x512, .f32⟩ : BufTy).Contents (Elt F)),
    binary main_v70 main_v74 main_v75 (addf : (⟨S16x512x512, .f32⟩ : BufTy).Contents (Elt F) → (⟨S16x512x512, .f32⟩ : BufTy).Contents (Elt F) → (⟨S16x512x512, .f32⟩ : BufTy).Contents (Elt F)),
    nullary main_cst_7 (constant S_ .f32 0x3F4C422A#32),
    unary main_cst_7 main_v76 (broadcastInDim S16x512x512 ![] bcast_S_S16x512x512 : (⟨S_, .f32⟩ : BufTy).Contents (Elt F) → (⟨S16x512x512, .f32⟩ : BufTy).Contents (Elt F)),
    binary main_v76 main_v75 main_v77 (mulf : (⟨S16x512x512, .f32⟩ : BufTy).Contents (Elt F) → (⟨S16x512x512, .f32⟩ : BufTy).Contents (Elt F) → (⟨S16x512x512, .f32⟩ : BufTy).Contents (Elt F)),
    unary main_v77 main_v78 (Host.tanh : (⟨S16x512x512, .f32⟩ : BufTy).Contents (Elt F) → (⟨S16x512x512, .f32⟩ : BufTy).Contents (Elt F)),
    nullary main_cst_8 (constant S_ .f32 0x3F800000#32),
    unary main_cst_8 main_v79 (broadcastInDim S16x512x512 ![] bcast_S_S16x512x512 : (⟨S_, .f32⟩ : BufTy).Contents (Elt F) → (⟨S16x512x512, .f32⟩ : BufTy).Contents (Elt F)),
    binary main_v79 main_v78 main_v80 (addf : (⟨S16x512x512, .f32⟩ : BufTy).Contents (Elt F) → (⟨S16x512x512, .f32⟩ : BufTy).Contents (Elt F) → (⟨S16x512x512, .f32⟩ : BufTy).Contents (Elt F)),
    nullary main_cst_9 (constant S_ .f32 0x3F000000#32),
    unary main_cst_9 main_v81 (broadcastInDim S16x512x512 ![] bcast_S_S16x512x512 : (⟨S_, .f32⟩ : BufTy).Contents (Elt F) → (⟨S16x512x512, .f32⟩ : BufTy).Contents (Elt F)),
    binary main_v81 main_v80 main_v82 (mulf : (⟨S16x512x512, .f32⟩ : BufTy).Contents (Elt F) → (⟨S16x512x512, .f32⟩ : BufTy).Contents (Elt F) → (⟨S16x512x512, .f32⟩ : BufTy).Contents (Elt F)),
    binary main_v70 main_v82 main_v83 (mulf : (⟨S16x512x512, .f32⟩ : BufTy).Contents (Elt F) → (⟨S16x512x512, .f32⟩ : BufTy).Contents (Elt F) → (⟨S16x512x512, .f32⟩ : BufTy).Contents (Elt F)) ]

/-- The operations of stage `proj`. -/
abbrev ops_proj : List (HloOp τ sig (Elt F)) :=
  [ binary main_v83 main_arg6 main_v84 ((fun l r => Host.dotGeneral dot_S16x512x512_S512x64_S16x512x64_1_0_02_1_n_n none l r) : (⟨S16x512x512, .f32⟩ : BufTy).Contents (Elt F) → (⟨S512x64, .f32⟩ : BufTy).Contents (Elt F) → (⟨S16x512x64, .f32⟩ : BufTy).Contents (Elt F)),
    unary main_arg7 main_v85 (broadcastInDim S1x1x64 ![2] bcast_S64_S1x1x64_2 : (⟨S64, .f32⟩ : BufTy).Contents (Elt F) → (⟨S1x1x64, .f32⟩ : BufTy).Contents (Elt F)),
    unary main_v85 main_v86 (broadcastInDim S16x512x64 ![0, 1, 2] bcast_S1x1x64_S16x512x64_0_1_2 : (⟨S1x1x64, .f32⟩ : BufTy).Contents (Elt F) → (⟨S16x512x64, .f32⟩ : BufTy).Contents (Elt F)),
    binary main_v84 main_v86 main_v87 (addf : (⟨S16x512x64, .f32⟩ : BufTy).Contents (Elt F) → (⟨S16x512x64, .f32⟩ : BufTy).Contents (Elt F) → (⟨S16x512x64, .f32⟩ : BufTy).Contents (Elt F)) ]

/-- The operations of stage `dist`. -/
abbrev ops_dist : List (HloOp τ sig (Elt F)) :=
  [ binary main_v87 main_v87 main_v88 (mulf : (⟨S16x512x64, .f32⟩ : BufTy).Contents (Elt F) → (⟨S16x512x64, .f32⟩ : BufTy).Contents (Elt F) → (⟨S16x512x64, .f32⟩ : BufTy).Contents (Elt F)),
    nullary main_cst_10 (constant S_ .f32 0x00000000#32),
    binary main_v88 main_cst_10 main_v89 ((fun x v => Host.reduceAdd x v reducesTo_S16x512x64_S16x512_d2 h_S_) : (⟨S16x512x64, .f32⟩ : BufTy).Contents (Elt F) → (⟨S_, .f32⟩ : BufTy).Contents (Elt F) → (⟨S16x512, .f32⟩ : BufTy).Contents (Elt F)),
    unary main_v89 main_v90 (broadcastInDim S16x512x1 ![0, 1] bcast_S16x512_S16x512x1_0_1 : (⟨S16x512, .f32⟩ : BufTy).Contents (Elt F) → (⟨S16x512x1, .f32⟩ : BufTy).Contents (Elt F)),
    binary main_v87 main_arg8 main_v91 ((fun l r => Host.dotGeneral dot_S16x512x64_S1024x64_S16x512x1024_2_1_01_0_n_n none l r) : (⟨S16x512x64, .f32⟩ : BufTy).Contents (Elt F) → (⟨S1024x64, .f32⟩ : BufTy).Contents (Elt F) → (⟨S16x512x1024, .f32⟩ : BufTy).Contents (Elt F)),
    nullary main_cst_11 (constant S_ .f32 0x40000000#32),
    unary main_cst_11 main_v92 (broadcastInDim S16x512x1024 ![] bcast_S_S16x512x1024 : (⟨S_, .f32⟩ : BufTy).Contents (Elt F) → (⟨S16x512x1024, .f32⟩ : BufTy).Contents (Elt F)),
    binary main_v92 main_v91 main_v93 (mulf : (⟨S16x512x1024, .f32⟩ : BufTy).Contents (Elt F) → (⟨S16x512x1024, .f32⟩ : BufTy).Contents (Elt F) → (⟨S16x512x1024, .f32⟩ : BufTy).Contents (Elt F)),
    unary main_v90 main_v94 (broadcastInDim S16x512x1024 ![0, 1, 2] bcast_S16x512x1_S16x512x1024_0_1_2 : (⟨S16x512x1, .f32⟩ : BufTy).Contents (Elt F) → (⟨S16x512x1024, .f32⟩ : BufTy).Contents (Elt F)),
    binary main_v94 main_v93 main_v95 (subf : (⟨S16x512x1024, .f32⟩ : BufTy).Contents (Elt F) → (⟨S16x512x1024, .f32⟩ : BufTy).Contents (Elt F) → (⟨S16x512x1024, .f32⟩ : BufTy).Contents (Elt F)),
    binary main_arg8 main_arg8 main_v96 (mulf : (⟨S1024x64, .f32⟩ : BufTy).Contents (Elt F) → (⟨S1024x64, .f32⟩ : BufTy).Contents (Elt F) → (⟨S1024x64, .f32⟩ : BufTy).Contents (Elt F)),
    nullary main_cst_12 (constant S_ .f32 0x00000000#32),
    binary main_v96 main_cst_12 main_v97 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v97 main_v98 (broadcastInDim S1x1x1024 ![2] bcast_S1024_S1x1x1024_2 : (⟨S1024, .f32⟩ : BufTy).Contents (Elt F) → (⟨S1x1x1024, .f32⟩ : BufTy).Contents (Elt F)),
    unary main_v98 main_v99 (broadcastInDim S16x512x1024 ![0, 1, 2] bcast_S1x1x1024_S16x512x1024_0_1_2 : (⟨S1x1x1024, .f32⟩ : BufTy).Contents (Elt F) → (⟨S16x512x1024, .f32⟩ : BufTy).Contents (Elt F)),
    binary main_v95 main_v99 main_v100 (addf : (⟨S16x512x1024, .f32⟩ : BufTy).Contents (Elt F) → (⟨S16x512x1024, .f32⟩ : BufTy).Contents (Elt F) → (⟨S16x512x1024, .f32⟩ : BufTy).Contents (Elt F)) ]

/-- The operations of stage `argmin`. -/
abbrev ops_argmin : List (HloOp τ sig (Elt F)) :=
  [ TRef.nullary (TRef.of (T := ⟨S16x512x1024, .i32⟩) main_call2_v0) (iotaInDim S16x512x1024 32 2),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S16x512x1024, .f32⟩) main_v100) (TRef.of (T := ⟨S16x512x1024, .i32⟩) main_call2_v0) (TRef.of (T := ⟨S_, .f32⟩) main_call2_cst) (TRef.of (T := ⟨S_, .i32⟩) main_call2_c) (TRef.of (T := ⟨S16x512, .f32⟩) main_call2_v1_0) (fun x y u v j => (Host.argReduce reducer_argmin_f32_i32 x y u v reducesTo_S16x512x1024_S16x512_d2 h_S_ j).1),
    TRef.quaternary (TRef.of (T := ⟨S16x512x1024, .f32⟩) main_v100) (TRef.of (T := ⟨S16x512x1024, .i32⟩) main_call2_v0) (TRef.of (T := ⟨S_, .f32⟩) main_call2_cst) (TRef.of (T := ⟨S_, .i32⟩) main_call2_c) (TRef.of (T := ⟨S16x512, .i32⟩) main_v101) (fun x y u v j => (Host.argReduce reducer_argmin_f32_i32 x y u v reducesTo_S16x512x1024_S16x512_d2 h_S_ j).2) ]

/-- The operations of stage `fdiv`. -/
abbrev ops_fdiv : List (HloOp τ sig (Elt F)) :=
  [ nullary main_c_13 (constantI S_ 32 4#32),
    TRef.unary (TRef.of (T := ⟨S_, .i32⟩) main_c_13) (TRef.of (T := ⟨S_, .i32⟩) main_call3_v0) id,
    TRef.unary (TRef.of (T := ⟨S_, .i32⟩) main_call3_v0) (TRef.of (T := ⟨S16, .i32⟩) main_call3_v1) (broadcastInDim S16 ![] bcast_S_S16),
    TRef.binary (TRef.of (T := ⟨S16, .i32⟩) main_arg1) (TRef.of (T := ⟨S16, .i32⟩) main_call3_v1) (TRef.of (T := ⟨S16, .i32⟩) main_call3_v2) Host.divsi,
    TRef.unary (TRef.of (T := ⟨S16, .i32⟩) main_arg1) (TRef.of (T := ⟨S16, .i32⟩) main_call3_v3) signi,
    TRef.unary (TRef.of (T := ⟨S_, .i32⟩) main_call3_v0) (TRef.of (T := ⟨S_, .i32⟩) main_call3_v4) signi,
    TRef.unary (TRef.of (T := ⟨S_, .i32⟩) main_call3_v4) (TRef.of (T := ⟨S16, .i32⟩) main_call3_v5) (broadcastInDim S16 ![] bcast_S_S16),
    TRef.binary (TRef.of (T := ⟨S16, .i32⟩) main_call3_v3) (TRef.of (T := ⟨S16, .i32⟩) main_call3_v5) (TRef.of (T := ⟨S16, .i1⟩) main_call3_v6) (cmpi .ne),
    TRef.unary (TRef.of (T := ⟨S_, .i32⟩) main_call3_v0) (TRef.of (T := ⟨S16, .i32⟩) main_call3_v7) (broadcastInDim S16 ![] bcast_S_S16),
    TRef.binary (TRef.of (T := ⟨S16, .i32⟩) main_arg1) (TRef.of (T := ⟨S16, .i32⟩) main_call3_v7) (TRef.of (T := ⟨S16, .i32⟩) main_call3_v8) Host.remsi,
    TRef.nullary (TRef.of (T := ⟨S_, .i32⟩) main_call3_c) (constantI S_ 32 0#32),
    TRef.unary (TRef.of (T := ⟨S_, .i32⟩) main_call3_c) (TRef.of (T := ⟨S16, .i32⟩) main_call3_v9) (broadcastInDim S16 ![] bcast_S_S16),
    TRef.binary (TRef.of (T := ⟨S16, .i32⟩) main_call3_v8) (TRef.of (T := ⟨S16, .i32⟩) main_call3_v9) (TRef.of (T := ⟨S16, .i1⟩) main_call3_v10) (cmpi .ne),
    TRef.binary (TRef.of (T := ⟨S16, .i1⟩) main_call3_v6) (TRef.of (T := ⟨S16, .i1⟩) main_call3_v10) (TRef.of (T := ⟨S16, .i1⟩) main_call3_v11) andi,
    TRef.nullary (TRef.of (T := ⟨S_, .i32⟩) main_call3_c_0) (constantI S_ 32 1#32),
    TRef.unary (TRef.of (T := ⟨S_, .i32⟩) main_call3_c_0) (TRef.of (T := ⟨S16, .i32⟩) main_call3_v12) (broadcastInDim S16 ![] bcast_S_S16),
    TRef.binary (TRef.of (T := ⟨S16, .i32⟩) main_call3_v2) (TRef.of (T := ⟨S16, .i32⟩) main_call3_v12) (TRef.of (T := ⟨S16, .i32⟩) main_call3_v13) subi,
    TRef.ternary (TRef.of (T := ⟨S16, .i1⟩) main_call3_v11) (TRef.of (T := ⟨S16, .i32⟩) main_call3_v13) (TRef.of (T := ⟨S16, .i32⟩) main_call3_v2) (TRef.of (T := ⟨S16, .i32⟩) main_v102) select ]

/-- The operations of stage `pad`. -/
abbrev ops_pad : List (HloOp τ sig (Elt F)) :=
  [ nullary main_c_14 (constantI S_ 32 1026#32) ]

/-- The operations of stage `toks`. -/
abbrev ops_toks : List (HloOp τ sig (Elt F)) :=
  [ unary main_c_14 main_v103 (broadcastInDim S16x1 ![] bcast_S_S16x1 : (⟨S_, .i32⟩ : BufTy).Contents (Elt F) → (⟨S16x1, .i32⟩ : BufTy).Contents (Elt F)),
    binary main_v101 main_v103 main_v104 ((fun a b => concatenate S16x513 1 [⟨S16x512, a⟩, ⟨S16x1, b⟩] concatenates_S16x512_S16x1_S16x513_d1) : (⟨S16x512, .i32⟩ : BufTy).Contents (Elt F) → (⟨S16x1, .i32⟩ : BufTy).Contents (Elt F) → (⟨S16x513, .i32⟩ : BufTy).Contents (Elt F)),
    nullary main_v105 (iotaInDim S513 32 0),
    unary main_v105 main_v106 (broadcastInDim S1x513 ![1] bcast_S513_S1x513_1 : (⟨S513, .i32⟩ : BufTy).Contents (Elt F) → (⟨S1x513, .i32⟩ : BufTy).Contents (Elt F)),
    unary main_v102 main_v107 (broadcastInDim S16x1 ![0] bcast_S16_S16x1_0 : (⟨S16, .i32⟩ : BufTy).Contents (Elt F) → (⟨S16x1, .i32⟩ : BufTy).Contents (Elt F)),
    unary main_v106 main_v108 (broadcastInDim S16x513 ![0, 1] bcast_S1x513_S16x513_0_1 : (⟨S1x513, .i32⟩ : BufTy).Contents (Elt F) → (⟨S16x513, .i32⟩ : BufTy).Contents (Elt F)),
    unary main_v107 main_v109 (broadcastInDim S16x513 ![0, 1] bcast_S16x1_S16x513_0_1 : (⟨S16x1, .i32⟩ : BufTy).Contents (Elt F) → (⟨S16x513, .i32⟩ : BufTy).Contents (Elt F)),
    binary main_v108 main_v109 main_v110 (cmpi .eq : (⟨S16x513, .i32⟩ : BufTy).Contents (Elt F) → (⟨S16x513, .i32⟩ : BufTy).Contents (Elt F) → (⟨S16x513, .i1⟩ : BufTy).Contents (Elt F)),
    unary main_v106 main_v111 (broadcastInDim S16x513 ![0, 1] bcast_S1x513_S16x513_0_1 : (⟨S1x513, .i32⟩ : BufTy).Contents (Elt F) → (⟨S16x513, .i32⟩ : BufTy).Contents (Elt F)),
    unary main_v107 main_v112 (broadcastInDim S16x513 ![0, 1] bcast_S16x1_S16x513_0_1 : (⟨S16x1, .i32⟩ : BufTy).Contents (Elt F) → (⟨S16x513, .i32⟩ : BufTy).Contents (Elt F)),
    binary main_v111 main_v112 main_v113 (cmpi .sgt : (⟨S16x513, .i32⟩ : BufTy).Contents (Elt F) → (⟨S16x513, .i32⟩ : BufTy).Contents (Elt F) → (⟨S16x513, .i1⟩ : BufTy).Contents (Elt F)),
    nullary main_c_15 (constantI S_ 32 1026#32),
    TRef.unary (TRef.of (T := ⟨S_, .i32⟩) main_c_15) (TRef.of (T := ⟨S_, .i32⟩) main_call4_v0) id,
    TRef.unary (TRef.of (T := ⟨S_, .i32⟩) main_call4_v0) (TRef.of (T := ⟨S16x513, .i32⟩) main_call4_v1) (broadcastInDim S16x513 ![] bcast_S_S16x513),
    TRef.ternary (TRef.of (T := ⟨S16x513, .i1⟩) main_v113) (TRef.of (T := ⟨S16x513, .i32⟩) main_call4_v1) (TRef.of (T := ⟨S16x513, .i32⟩) main_v104) (TRef.of (T := ⟨S16x513, .i32⟩) main_v114) select,
    nullary main_c_16 (constantI S_ 32 1025#32),
    TRef.unary (TRef.of (T := ⟨S_, .i32⟩) main_c_16) (TRef.of (T := ⟨S_, .i32⟩) main_call5_v0) id,
    TRef.unary (TRef.of (T := ⟨S_, .i32⟩) main_call5_v0) (TRef.of (T := ⟨S16x513, .i32⟩) main_call5_v1) (broadcastInDim S16x513 ![] bcast_S_S16x513),
    TRef.ternary (TRef.of (T := ⟨S16x513, .i1⟩) main_v110) (TRef.of (T := ⟨S16x513, .i32⟩) main_call5_v1) (TRef.of (T := ⟨S16x513, .i32⟩) main_v114) (TRef.of (T := ⟨S16x513, .i32⟩) main_v115) select,
    nullary main_c_17 (constantI S_ 32 1024#32),
    unary main_c_17 main_v116 (broadcastInDim S16x1 ![] bcast_S_S16x1 : (⟨S_, .i32⟩ : BufTy).Contents (Elt F) → (⟨S16x1, .i32⟩ : BufTy).Contents (Elt F)),
    binary main_v116 main_v115 main_v117 ((fun a b => concatenate S16x514 1 [⟨S16x1, a⟩, ⟨S16x513, b⟩] concatenates_S16x1_S16x513_S16x514_d1) : (⟨S16x1, .i32⟩ : BufTy).Contents (Elt F) → (⟨S16x513, .i32⟩ : BufTy).Contents (Elt F) → (⟨S16x514, .i32⟩ : BufTy).Contents (Elt F)) ]

/-- The operations of stage `lens`. -/
abbrev ops_lens : List (HloOp τ sig (Elt F)) :=
  [ nullary main_c_18 (constantI S_ 32 1#32),
    unary main_c_18 main_v118 (broadcastInDim S16 ![] bcast_S_S16 : (⟨S_, .i32⟩ : BufTy).Contents (Elt F) → (⟨S16, .i32⟩ : BufTy).Contents (Elt F)),
    binary main_v102 main_v118 main_v119 (addi : (⟨S16, .i32⟩ : BufTy).Contents (Elt F) → (⟨S16, .i32⟩ : BufTy).Contents (Elt F) → (⟨S16, .i32⟩ : BufTy).Contents (Elt F)),
    nullary main_c_19 (constantI S_ 32 1#32),
    unary main_c_19 main_v120 (broadcastInDim S16 ![] bcast_S_S16 : (⟨S_, .i32⟩ : BufTy).Contents (Elt F) → (⟨S16, .i32⟩ : BufTy).Contents (Elt F)),
    binary main_v119 main_v120 main_v121 (addi : (⟨S16, .i32⟩ : BufTy).Contents (Elt F) → (⟨S16, .i32⟩ : BufTy).Contents (Elt F) → (⟨S16, .i32⟩ : BufTy).Contents (Elt F)) ]

/-- Stage `conv1` as a function: the first convolution with its bias. -/
def f_conv1 (arg2 : BufTy.Contents (Elt F) ⟨S512x128x4, .f32⟩) (arg0 : BufTy.Contents (Elt F) ⟨S16x128x2048, .f32⟩) (arg3 : BufTy.Contents (Elt F) ⟨S512, .f32⟩) : BufTy.Contents (Elt F) ⟨S16x512x1024, .f32⟩ :=
  let cst : BufTy.Contents (Elt F) ⟨S_, .f32⟩ := ((constant S_ .f32 0x00000000#32))
  let v6 : BufTy.Contents (Elt F) ⟨S16x512x1024, .f32⟩ := ((broadcastInDim S16x512x1024 ![] bcast_S_S16x512x1024 : (⟨S_, .f32⟩ : BufTy).Contents (Elt F) → (⟨S16x512x1024, .f32⟩ : BufTy).Contents (Elt F))) cst
  let v2 : BufTy.Contents (Elt F) ⟨S512x128x1, .f32⟩ := (((extractStridedSlice S512x128x1 ![0, 0, 0] · slices_S512x128x4_S512x128x1_0_0_0) : (⟨S512x128x4, .f32⟩ : BufTy).Contents (Elt F) → (⟨S512x128x1, .f32⟩ : BufTy).Contents (Elt F))) arg2
  let v3 : BufTy.Contents (Elt F) ⟨S512x128, .f32⟩ := ((shapeCast S512x128 · shapeCasts_S512x128x1_S512x128)) v2
  let c : BufTy.Contents (Elt F) ⟨S_, .i32⟩ := ((constantI S_ 32 0#32))
  let k0_v0 : BufTy.Contents (Elt F) ⟨S_, .f32⟩ := ((sitofp .f32)) c
  let v0 : BufTy.Contents (Elt F) ⟨S16x128x2050, .f32⟩ := ((fun x v => pad S16x128x2050 ![0, 0, 1] ![0, 0, 1] ![0, 0, 0] x v pads_S16x128x2048_S16x128x2050_000_000_110 h_S_)) arg0 k0_v0
  let v1 : BufTy.Contents (Elt F) ⟨S16x128x1024, .f32⟩ := (((Host.slice S16x128x1024 ![0, 0, 0] ![1, 1, 2] · slicesBy_S16x128x2050_S16x128x1024_0s1_0s1_0s2) : (⟨S16x128x2050, .f32⟩ : BufTy).Contents (Elt F) → (⟨S16x128x1024, .f32⟩ : BufTy).Contents (Elt F))) v0
  let v4 : BufTy.Contents (Elt F) ⟨S512x16x1024, .f32⟩ := (((fun l r => Host.dotGeneral dot_S512x128_S16x128x1024_S512x16x1024_1_1_0_02_n_n none l r) : (⟨S512x128, .f32⟩ : BufTy).Contents (Elt F) → (⟨S16x128x1024, .f32⟩ : BufTy).Contents (Elt F) → (⟨S512x16x1024, .f32⟩ : BufTy).Contents (Elt F))) v3 v1
  let v5 : BufTy.Contents (Elt F) ⟨S16x512x1024, .f32⟩ := (((transpose S16x512x1024 [1, 0, 2] · transposes_S512x16x1024_S16x512x1024_1_0_2) : (⟨S512x16x1024, .f32⟩ : BufTy).Contents (Elt F) → (⟨S16x512x1024, .f32⟩ : BufTy).Contents (Elt F))) v4
  let v7 : BufTy.Contents (Elt F) ⟨S16x512x1024, .f32⟩ := ((addf : (⟨S16x512x1024, .f32⟩ : BufTy).Contents (Elt F) → (⟨S16x512x1024, .f32⟩ : BufTy).Contents (Elt F) → (⟨S16x512x1024, .f32⟩ : BufTy).Contents (Elt F))) v6 v5
  let v9 : BufTy.Contents (Elt F) ⟨S512x128x1, .f32⟩ := (((extractStridedSlice S512x128x1 ![0, 0, 1] · slices_S512x128x4_S512x128x1_0_0_1) : (⟨S512x128x4, .f32⟩ : BufTy).Contents (Elt F) → (⟨S512x128x1, .f32⟩ : BufTy).Contents (Elt F))) arg2
  let v10 : BufTy.Contents (Elt F) ⟨S512x128, .f32⟩ := ((shapeCast S512x128 · shapeCasts_S512x128x1_S512x128)) v9
  let v8 : BufTy.Contents (Elt F) ⟨S16x128x1024, .f32⟩ := (((Host.slice S16x128x1024 ![0, 0, 1] ![1, 1, 2] · slicesBy_S16x128x2050_S16x128x1024_0s1_0s1_1s2) : (⟨S16x128x2050, .f32⟩ : BufTy).Contents (Elt F) → (⟨S16x128x1024, .f32⟩ : BufTy).Contents (Elt F))) v0
  let v11 : BufTy.Contents (Elt F) ⟨S512x16x1024, .f32⟩ := (((fun l r => Host.dotGeneral dot_S512x128_S16x128x1024_S512x16x1024_1_1_0_02_n_n none l r) : (⟨S512x128, .f32⟩ : BufTy).Contents (Elt F) → (⟨S16x128x1024, .f32⟩ : BufTy).Contents (Elt F) → (⟨S512x16x1024, .f32⟩ : BufTy).Contents (Elt F))) v10 v8
  let v12 : BufTy.Contents (Elt F) ⟨S16x512x1024, .f32⟩ := (((transpose S16x512x1024 [1, 0, 2] · transposes_S512x16x1024_S16x512x1024_1_0_2) : (⟨S512x16x1024, .f32⟩ : BufTy).Contents (Elt F) → (⟨S16x512x1024, .f32⟩ : BufTy).Contents (Elt F))) v11
  let v13 : BufTy.Contents (Elt F) ⟨S16x512x1024, .f32⟩ := ((addf : (⟨S16x512x1024, .f32⟩ : BufTy).Contents (Elt F) → (⟨S16x512x1024, .f32⟩ : BufTy).Contents (Elt F) → (⟨S16x512x1024, .f32⟩ : BufTy).Contents (Elt F))) v7 v12
  let v15 : BufTy.Contents (Elt F) ⟨S512x128x1, .f32⟩ := (((extractStridedSlice S512x128x1 ![0, 0, 2] · slices_S512x128x4_S512x128x1_0_0_2) : (⟨S512x128x4, .f32⟩ : BufTy).Contents (Elt F) → (⟨S512x128x1, .f32⟩ : BufTy).Contents (Elt F))) arg2
  let v16 : BufTy.Contents (Elt F) ⟨S512x128, .f32⟩ := ((shapeCast S512x128 · shapeCasts_S512x128x1_S512x128)) v15
  let v14 : BufTy.Contents (Elt F) ⟨S16x128x1024, .f32⟩ := (((Host.slice S16x128x1024 ![0, 0, 2] ![1, 1, 2] · slicesBy_S16x128x2050_S16x128x1024_0s1_0s1_2s2) : (⟨S16x128x2050, .f32⟩ : BufTy).Contents (Elt F) → (⟨S16x128x1024, .f32⟩ : BufTy).Contents (Elt F))) v0
  let v17 : BufTy.Contents (Elt F) ⟨S512x16x1024, .f32⟩ := (((fun l r => Host.dotGeneral dot_S512x128_S16x128x1024_S512x16x1024_1_1_0_02_n_n none l r) : (⟨S512x128, .f32⟩ : BufTy).Contents (Elt F) → (⟨S16x128x1024, .f32⟩ : BufTy).Contents (Elt F) → (⟨S512x16x1024, .f32⟩ : BufTy).Contents (Elt F))) v16 v14
  let v18 : BufTy.Contents (Elt F) ⟨S16x512x1024, .f32⟩ := (((transpose S16x512x1024 [1, 0, 2] · transposes_S512x16x1024_S16x512x1024_1_0_2) : (⟨S512x16x1024, .f32⟩ : BufTy).Contents (Elt F) → (⟨S16x512x1024, .f32⟩ : BufTy).Contents (Elt F))) v17
  let v19 : BufTy.Contents (Elt F) ⟨S16x512x1024, .f32⟩ := ((addf : (⟨S16x512x1024, .f32⟩ : BufTy).Contents (Elt F) → (⟨S16x512x1024, .f32⟩ : BufTy).Contents (Elt F) → (⟨S16x512x1024, .f32⟩ : BufTy).Contents (Elt F))) v13 v18
  let v21 : BufTy.Contents (Elt F) ⟨S512x128x1, .f32⟩ := (((extractStridedSlice S512x128x1 ![0, 0, 3] · slices_S512x128x4_S512x128x1_0_0_3) : (⟨S512x128x4, .f32⟩ : BufTy).Contents (Elt F) → (⟨S512x128x1, .f32⟩ : BufTy).Contents (Elt F))) arg2
  let v22 : BufTy.Contents (Elt F) ⟨S512x128, .f32⟩ := ((shapeCast S512x128 · shapeCasts_S512x128x1_S512x128)) v21
  let v20 : BufTy.Contents (Elt F) ⟨S16x128x1024, .f32⟩ := (((Host.slice S16x128x1024 ![0, 0, 3] ![1, 1, 2] · slicesBy_S16x128x2050_S16x128x1024_0s1_0s1_3s2) : (⟨S16x128x2050, .f32⟩ : BufTy).Contents (Elt F) → (⟨S16x128x1024, .f32⟩ : BufTy).Contents (Elt F))) v0
  let v23 : BufTy.Contents (Elt F) ⟨S512x16x1024, .f32⟩ := (((fun l r => Host.dotGeneral dot_S512x128_S16x128x1024_S512x16x1024_1_1_0_02_n_n none l r) : (⟨S512x128, .f32⟩ : BufTy).Contents (Elt F) → (⟨S16x128x1024, .f32⟩ : BufTy).Contents (Elt F) → (⟨S512x16x1024, .f32⟩ : BufTy).Contents (Elt F))) v22 v20
  let v24 : BufTy.Contents (Elt F) ⟨S16x512x1024, .f32⟩ := (((transpose S16x512x1024 [1, 0, 2] · transposes_S512x16x1024_S16x512x1024_1_0_2) : (⟨S512x16x1024, .f32⟩ : BufTy).Contents (Elt F) → (⟨S16x512x1024, .f32⟩ : BufTy).Contents (Elt F))) v23
  let v25 : BufTy.Contents (Elt F) ⟨S16x512x1024, .f32⟩ := ((addf : (⟨S16x512x1024, .f32⟩ : BufTy).Contents (Elt F) → (⟨S16x512x1024, .f32⟩ : BufTy).Contents (Elt F) → (⟨S16x512x1024, .f32⟩ : BufTy).Contents (Elt F))) v19 v24
  let v26 : BufTy.Contents (Elt F) ⟨S1x512x1, .f32⟩ := ((broadcastInDim S1x512x1 ![1] bcast_S512_S1x512x1_1 : (⟨S512, .f32⟩ : BufTy).Contents (Elt F) → (⟨S1x512x1, .f32⟩ : BufTy).Contents (Elt F))) arg3
  let v27 : BufTy.Contents (Elt F) ⟨S16x512x1024, .f32⟩ := ((broadcastInDim S16x512x1024 ![0, 1, 2] bcast_S1x512x1_S16x512x1024_0_1_2 : (⟨S1x512x1, .f32⟩ : BufTy).Contents (Elt F) → (⟨S16x512x1024, .f32⟩ : BufTy).Contents (Elt F))) v26
  let v28 : BufTy.Contents (Elt F) ⟨S16x512x1024, .f32⟩ := ((addf : (⟨S16x512x1024, .f32⟩ : BufTy).Contents (Elt F) → (⟨S16x512x1024, .f32⟩ : BufTy).Contents (Elt F) → (⟨S16x512x1024, .f32⟩ : BufTy).Contents (Elt F))) v25 v27
  v28

/-- Stage `gelu1` as a function: its gelu. -/
def f_gelu1 (v28 : BufTy.Contents (Elt F) ⟨S16x512x1024, .f32⟩) : BufTy.Contents (Elt F) ⟨S16x512x1024, .f32⟩ :=
  let cst_3 : BufTy.Contents (Elt F) ⟨S_, .f32⟩ := ((constant S_ .f32 0x3F000000#32))
  let v39 : BufTy.Contents (Elt F) ⟨S16x512x1024, .f32⟩ := ((broadcastInDim S16x512x1024 ![] bcast_S_S16x512x1024 : (⟨S_, .f32⟩ : BufTy).Contents (Elt F) → (⟨S16x512x1024, .f32⟩ : BufTy).Contents (Elt F))) cst_3
  let cst_2 : BufTy.Contents (Elt F) ⟨S_, .f32⟩ := ((constant S_ .f32 0x3F800000#32))
  let v37 : BufTy.Contents (Elt F) ⟨S16x512x1024, .f32⟩ := ((broadcastInDim S16x512x1024 ![] bcast_S_S16x512x1024 : (⟨S_, .f32⟩ : BufTy).Contents (Elt F) → (⟨S16x512x1024, .f32⟩ : BufTy).Contents (Elt F))) cst_2
  let cst_1 : BufTy.Contents (Elt F) ⟨S_, .f32⟩ := ((constant S_ .f32 0x3F4C422A#32))
  let v34 : BufTy.Contents (Elt F) ⟨S16x512x1024, .f32⟩ := ((broadcastInDim S16x512x1024 ![] bcast_S_S16x512x1024 : (⟨S_, .f32⟩ : BufTy).Contents (Elt F) → (⟨S16x512x1024, .f32⟩ : BufTy).Contents (Elt F))) cst_1
  let cst_0 : BufTy.Contents (Elt F) ⟨S_, .f32⟩ := ((constant S_ .f32 0x3D372713#32))
  let v31 : BufTy.Contents (Elt F) ⟨S16x512x1024, .f32⟩ := ((broadcastInDim S16x512x1024 ![] bcast_S_S16x512x1024 : (⟨S_, .f32⟩ : BufTy).Contents (Elt F) → (⟨S16x512x1024, .f32⟩ : BufTy).Contents (Elt F))) cst_0
  let v29 : BufTy.Contents (Elt F) ⟨S16x512x1024, .f32⟩ := ((mulf : (⟨S16x512x1024, .f32⟩ : BufTy).Contents (Elt F) → (⟨S16x512x1024, .f32⟩ : BufTy).Contents (Elt F) → (⟨S16x512x1024, .f32⟩ : BufTy).Contents (Elt F))) v28 v28
  let v30 : BufTy.Contents (Elt F) ⟨S16x512x1024, .f32⟩ := ((mulf : (⟨S16x512x1024, .f32⟩ : BufTy).Contents (Elt F) → (⟨S16x512x1024, .f32⟩ : BufTy).Contents (Elt F) → (⟨S16x512x1024, .f32⟩ : BufTy).Contents (Elt F))) v29 v28
  let v32 : BufTy.Contents (Elt F) ⟨S16x512x1024, .f32⟩ := ((mulf : (⟨S16x512x1024, .f32⟩ : BufTy).Contents (Elt F) → (⟨S16x512x1024, .f32⟩ : BufTy).Contents (Elt F) → (⟨S16x512x1024, .f32⟩ : BufTy).Contents (Elt F))) v31 v30
  let v33 : BufTy.Contents (Elt F) ⟨S16x512x1024, .f32⟩ := ((addf : (⟨S16x512x1024, .f32⟩ : BufTy).Contents (Elt F) → (⟨S16x512x1024, .f32⟩ : BufTy).Contents (Elt F) → (⟨S16x512x1024, .f32⟩ : BufTy).Contents (Elt F))) v28 v32
  let v35 : BufTy.Contents (Elt F) ⟨S16x512x1024, .f32⟩ := ((mulf : (⟨S16x512x1024, .f32⟩ : BufTy).Contents (Elt F) → (⟨S16x512x1024, .f32⟩ : BufTy).Contents (Elt F) → (⟨S16x512x1024, .f32⟩ : BufTy).Contents (Elt F))) v34 v33
  let v36 : BufTy.Contents (Elt F) ⟨S16x512x1024, .f32⟩ := ((Host.tanh : (⟨S16x512x1024, .f32⟩ : BufTy).Contents (Elt F) → (⟨S16x512x1024, .f32⟩ : BufTy).Contents (Elt F))) v35
  let v38 : BufTy.Contents (Elt F) ⟨S16x512x1024, .f32⟩ := ((addf : (⟨S16x512x1024, .f32⟩ : BufTy).Contents (Elt F) → (⟨S16x512x1024, .f32⟩ : BufTy).Contents (Elt F) → (⟨S16x512x1024, .f32⟩ : BufTy).Contents (Elt F))) v37 v36
  let v40 : BufTy.Contents (Elt F) ⟨S16x512x1024, .f32⟩ := ((mulf : (⟨S16x512x1024, .f32⟩ : BufTy).Contents (Elt F) → (⟨S16x512x1024, .f32⟩ : BufTy).Contents (Elt F) → (⟨S16x512x1024, .f32⟩ : BufTy).Contents (Elt F))) v39 v38
  let v41 : BufTy.Contents (Elt F) ⟨S16x512x1024, .f32⟩ := ((mulf : (⟨S16x512x1024, .f32⟩ : BufTy).Contents (Elt F) → (⟨S16x512x1024, .f32⟩ : BufTy).Contents (Elt F) → (⟨S16x512x1024, .f32⟩ : BufTy).Contents (Elt F))) v28 v40
  v41

/-- Stage `conv2` as a function: the second convolution with its bias. -/
def f_conv2 (arg4 : BufTy.Contents (Elt F) ⟨S512x512x4, .f32⟩) (v41 : BufTy.Contents (Elt F) ⟨S16x512x1024, .f32⟩) (arg5 : BufTy.Contents (Elt F) ⟨S512, .f32⟩) : BufTy.Contents (Elt F) ⟨S16x512x512, .f32⟩ :=
  let cst_5 : BufTy.Contents (Elt F) ⟨S_, .f32⟩ := ((constant S_ .f32 0x00000000#32))
  let v48 : BufTy.Contents (Elt F) ⟨S16x512x512, .f32⟩ := ((broadcastInDim S16x512x512 ![] bcast_S_S16x512x512 : (⟨S_, .f32⟩ : BufTy).Contents (Elt F) → (⟨S16x512x512, .f32⟩ : BufTy).Contents (Elt F))) cst_5
  let v44 : BufTy.Contents (Elt F) ⟨S512x512x1, .f32⟩ := (((extractStridedSlice S512x512x1 ![0, 0, 0] · slices_S512x512x4_S512x512x1_0_0_0) : (⟨S512x512x4, .f32⟩ : BufTy).Contents (Elt F) → (⟨S512x512x1, .f32⟩ : BufTy).Contents (Elt F))) arg4
  let v45 : BufTy.Contents (Elt F) ⟨S512x512, .f32⟩ := ((shapeCast S512x512 · shapeCasts_S512x512x1_S512x512)) v44
  let c_4 : BufTy.Contents (Elt F) ⟨S_, .i32⟩ := ((constantI S_ 32 0#32))
  let k1_v0 : BufTy.Contents (Elt F) ⟨S_, .f32⟩ := ((sitofp .f32)) c_4
  let v42 : BufTy.Contents (Elt F) ⟨S16x512x1026, .f32⟩ := ((fun x v => pad S16x512x1026 ![0, 0, 1] ![0, 0, 1] ![0, 0, 0] x v pads_S16x512x1024_S16x512x1026_000_000_110 h_S_)) v41 k1_v0
  let v43 : BufTy.Contents (Elt F) ⟨S16x512x512, .f32⟩ := (((Host.slice S16x512x512 ![0, 0, 0] ![1, 1, 2] · slicesBy_S16x512x1026_S16x512x512_0s1_0s1_0s2) : (⟨S16x512x1026, .f32⟩ : BufTy).Contents (Elt F) → (⟨S16x512x512, .f32⟩ : BufTy).Contents (Elt F))) v42
  let v46 : BufTy.Contents (Elt F) ⟨S512x16x512, .f32⟩ := (((fun l r => Host.dotGeneral dot_S512x512_S16x512x512_S512x16x512_1_1_0_02_n_n none l r) : (⟨S512x512, .f32⟩ : BufTy).Contents (Elt F) → (⟨S16x512x512, .f32⟩ : BufTy).Contents (Elt F) → (⟨S512x16x512, .f32⟩ : BufTy).Contents (Elt F))) v45 v43
  let v47 : BufTy.Contents (Elt F) ⟨S16x512x512, .f32⟩ := (((transpose S16x512x512 [1, 0, 2] · transposes_S512x16x512_S16x512x512_1_0_2) : (⟨S512x16x512, .f32⟩ : BufTy).Contents (Elt F) → (⟨S16x512x512, .f32⟩ : BufTy).Contents (Elt F))) v46
  let v49 : BufTy.Contents (Elt F) ⟨S16x512x512, .f32⟩ := ((addf : (⟨S16x512x512, .f32⟩ : BufTy).Contents (Elt F) → (⟨S16x512x512, .f32⟩ : BufTy).Contents (Elt F) → (⟨S16x512x512, .f32⟩ : BufTy).Contents (Elt F))) v48 v47
  let v51 : BufTy.Contents (Elt F) ⟨S512x512x1, .f32⟩ := (((extractStridedSlice S512x512x1 ![0, 0, 1] · slices_S512x512x4_S512x512x1_0_0_1) : (⟨S512x512x4, .f32⟩ : BufTy).Contents (Elt F) → (⟨S512x512x1, .f32⟩ : BufTy).Contents (Elt F))) arg4
  let v52 : BufTy.Contents (Elt F) ⟨S512x512, .f32⟩ := ((shapeCast S512x512 · shapeCasts_S512x512x1_S512x512)) v51
  let v50 : BufTy.Contents (Elt F) ⟨S16x512x512, .f32⟩ := (((Host.slice S16x512x512 ![0, 0, 1] ![1, 1, 2] · slicesBy_S16x512x1026_S16x512x512_0s1_0s1_1s2) : (⟨S16x512x1026, .f32⟩ : BufTy).Contents (Elt F) → (⟨S16x512x512, .f32⟩ : BufTy).Contents (Elt F))) v42
  let v53 : BufTy.Contents (Elt F) ⟨S512x16x512, .f32⟩ := (((fun l r => Host.dotGeneral dot_S512x512_S16x512x512_S512x16x512_1_1_0_02_n_n none l r) : (⟨S512x512, .f32⟩ : BufTy).Contents (Elt F) → (⟨S16x512x512, .f32⟩ : BufTy).Contents (Elt F) → (⟨S512x16x512, .f32⟩ : BufTy).Contents (Elt F))) v52 v50
  let v54 : BufTy.Contents (Elt F) ⟨S16x512x512, .f32⟩ := (((transpose S16x512x512 [1, 0, 2] · transposes_S512x16x512_S16x512x512_1_0_2) : (⟨S512x16x512, .f32⟩ : BufTy).Contents (Elt F) → (⟨S16x512x512, .f32⟩ : BufTy).Contents (Elt F))) v53
  let v55 : BufTy.Contents (Elt F) ⟨S16x512x512, .f32⟩ := ((addf : (⟨S16x512x512, .f32⟩ : BufTy).Contents (Elt F) → (⟨S16x512x512, .f32⟩ : BufTy).Contents (Elt F) → (⟨S16x512x512, .f32⟩ : BufTy).Contents (Elt F))) v49 v54
  let v57 : BufTy.Contents (Elt F) ⟨S512x512x1, .f32⟩ := (((extractStridedSlice S512x512x1 ![0, 0, 2] · slices_S512x512x4_S512x512x1_0_0_2) : (⟨S512x512x4, .f32⟩ : BufTy).Contents (Elt F) → (⟨S512x512x1, .f32⟩ : BufTy).Contents (Elt F))) arg4
  let v58 : BufTy.Contents (Elt F) ⟨S512x512, .f32⟩ := ((shapeCast S512x512 · shapeCasts_S512x512x1_S512x512)) v57
  let v56 : BufTy.Contents (Elt F) ⟨S16x512x512, .f32⟩ := (((Host.slice S16x512x512 ![0, 0, 2] ![1, 1, 2] · slicesBy_S16x512x1026_S16x512x512_0s1_0s1_2s2) : (⟨S16x512x1026, .f32⟩ : BufTy).Contents (Elt F) → (⟨S16x512x512, .f32⟩ : BufTy).Contents (Elt F))) v42
  let v59 : BufTy.Contents (Elt F) ⟨S512x16x512, .f32⟩ := (((fun l r => Host.dotGeneral dot_S512x512_S16x512x512_S512x16x512_1_1_0_02_n_n none l r) : (⟨S512x512, .f32⟩ : BufTy).Contents (Elt F) → (⟨S16x512x512, .f32⟩ : BufTy).Contents (Elt F) → (⟨S512x16x512, .f32⟩ : BufTy).Contents (Elt F))) v58 v56
  let v60 : BufTy.Contents (Elt F) ⟨S16x512x512, .f32⟩ := (((transpose S16x512x512 [1, 0, 2] · transposes_S512x16x512_S16x512x512_1_0_2) : (⟨S512x16x512, .f32⟩ : BufTy).Contents (Elt F) → (⟨S16x512x512, .f32⟩ : BufTy).Contents (Elt F))) v59
  let v61 : BufTy.Contents (Elt F) ⟨S16x512x512, .f32⟩ := ((addf : (⟨S16x512x512, .f32⟩ : BufTy).Contents (Elt F) → (⟨S16x512x512, .f32⟩ : BufTy).Contents (Elt F) → (⟨S16x512x512, .f32⟩ : BufTy).Contents (Elt F))) v55 v60
  let v63 : BufTy.Contents (Elt F) ⟨S512x512x1, .f32⟩ := (((extractStridedSlice S512x512x1 ![0, 0, 3] · slices_S512x512x4_S512x512x1_0_0_3) : (⟨S512x512x4, .f32⟩ : BufTy).Contents (Elt F) → (⟨S512x512x1, .f32⟩ : BufTy).Contents (Elt F))) arg4
  let v64 : BufTy.Contents (Elt F) ⟨S512x512, .f32⟩ := ((shapeCast S512x512 · shapeCasts_S512x512x1_S512x512)) v63
  let v62 : BufTy.Contents (Elt F) ⟨S16x512x512, .f32⟩ := (((Host.slice S16x512x512 ![0, 0, 3] ![1, 1, 2] · slicesBy_S16x512x1026_S16x512x512_0s1_0s1_3s2) : (⟨S16x512x1026, .f32⟩ : BufTy).Contents (Elt F) → (⟨S16x512x512, .f32⟩ : BufTy).Contents (Elt F))) v42
  let v65 : BufTy.Contents (Elt F) ⟨S512x16x512, .f32⟩ := (((fun l r => Host.dotGeneral dot_S512x512_S16x512x512_S512x16x512_1_1_0_02_n_n none l r) : (⟨S512x512, .f32⟩ : BufTy).Contents (Elt F) → (⟨S16x512x512, .f32⟩ : BufTy).Contents (Elt F) → (⟨S512x16x512, .f32⟩ : BufTy).Contents (Elt F))) v64 v62
  let v66 : BufTy.Contents (Elt F) ⟨S16x512x512, .f32⟩ := (((transpose S16x512x512 [1, 0, 2] · transposes_S512x16x512_S16x512x512_1_0_2) : (⟨S512x16x512, .f32⟩ : BufTy).Contents (Elt F) → (⟨S16x512x512, .f32⟩ : BufTy).Contents (Elt F))) v65
  let v67 : BufTy.Contents (Elt F) ⟨S16x512x512, .f32⟩ := ((addf : (⟨S16x512x512, .f32⟩ : BufTy).Contents (Elt F) → (⟨S16x512x512, .f32⟩ : BufTy).Contents (Elt F) → (⟨S16x512x512, .f32⟩ : BufTy).Contents (Elt F))) v61 v66
  let v68 : BufTy.Contents (Elt F) ⟨S1x512x1, .f32⟩ := ((broadcastInDim S1x512x1 ![1] bcast_S512_S1x512x1_1 : (⟨S512, .f32⟩ : BufTy).Contents (Elt F) → (⟨S1x512x1, .f32⟩ : BufTy).Contents (Elt F))) arg5
  let v69 : BufTy.Contents (Elt F) ⟨S16x512x512, .f32⟩ := ((broadcastInDim S16x512x512 ![0, 1, 2] bcast_S1x512x1_S16x512x512_0_1_2 : (⟨S1x512x1, .f32⟩ : BufTy).Contents (Elt F) → (⟨S16x512x512, .f32⟩ : BufTy).Contents (Elt F))) v68
  let v70 : BufTy.Contents (Elt F) ⟨S16x512x512, .f32⟩ := ((addf : (⟨S16x512x512, .f32⟩ : BufTy).Contents (Elt F) → (⟨S16x512x512, .f32⟩ : BufTy).Contents (Elt F) → (⟨S16x512x512, .f32⟩ : BufTy).Contents (Elt F))) v67 v69
  v70

/-- Stage `gelu2` as a function: its gelu. -/
def f_gelu2 (v70 : BufTy.Contents (Elt F) ⟨S16x512x512, .f32⟩) : BufTy.Contents (Elt F) ⟨S16x512x512, .f32⟩ :=
  let cst_9 : BufTy.Contents (Elt F) ⟨S_, .f32⟩ := ((constant S_ .f32 0x3F000000#32))
  let v81 : BufTy.Contents (Elt F) ⟨S16x512x512, .f32⟩ := ((broadcastInDim S16x512x512 ![] bcast_S_S16x512x512 : (⟨S_, .f32⟩ : BufTy).Contents (Elt F) → (⟨S16x512x512, .f32⟩ : BufTy).Contents (Elt F))) cst_9
  let cst_8 : BufTy.Contents (Elt F) ⟨S_, .f32⟩ := ((constant S_ .f32 0x3F800000#32))
  let v79 : BufTy.Contents (Elt F) ⟨S16x512x512, .f32⟩ := ((broadcastInDim S16x512x512 ![] bcast_S_S16x512x512 : (⟨S_, .f32⟩ : BufTy).Contents (Elt F) → (⟨S16x512x512, .f32⟩ : BufTy).Contents (Elt F))) cst_8
  let cst_7 : BufTy.Contents (Elt F) ⟨S_, .f32⟩ := ((constant S_ .f32 0x3F4C422A#32))
  let v76 : BufTy.Contents (Elt F) ⟨S16x512x512, .f32⟩ := ((broadcastInDim S16x512x512 ![] bcast_S_S16x512x512 : (⟨S_, .f32⟩ : BufTy).Contents (Elt F) → (⟨S16x512x512, .f32⟩ : BufTy).Contents (Elt F))) cst_7
  let cst_6 : BufTy.Contents (Elt F) ⟨S_, .f32⟩ := ((constant S_ .f32 0x3D372713#32))
  let v73 : BufTy.Contents (Elt F) ⟨S16x512x512, .f32⟩ := ((broadcastInDim S16x512x512 ![] bcast_S_S16x512x512 : (⟨S_, .f32⟩ : BufTy).Contents (Elt F) → (⟨S16x512x512, .f32⟩ : BufTy).Contents (Elt F))) cst_6
  let v71 : BufTy.Contents (Elt F) ⟨S16x512x512, .f32⟩ := ((mulf : (⟨S16x512x512, .f32⟩ : BufTy).Contents (Elt F) → (⟨S16x512x512, .f32⟩ : BufTy).Contents (Elt F) → (⟨S16x512x512, .f32⟩ : BufTy).Contents (Elt F))) v70 v70
  let v72 : BufTy.Contents (Elt F) ⟨S16x512x512, .f32⟩ := ((mulf : (⟨S16x512x512, .f32⟩ : BufTy).Contents (Elt F) → (⟨S16x512x512, .f32⟩ : BufTy).Contents (Elt F) → (⟨S16x512x512, .f32⟩ : BufTy).Contents (Elt F))) v71 v70
  let v74 : BufTy.Contents (Elt F) ⟨S16x512x512, .f32⟩ := ((mulf : (⟨S16x512x512, .f32⟩ : BufTy).Contents (Elt F) → (⟨S16x512x512, .f32⟩ : BufTy).Contents (Elt F) → (⟨S16x512x512, .f32⟩ : BufTy).Contents (Elt F))) v73 v72
  let v75 : BufTy.Contents (Elt F) ⟨S16x512x512, .f32⟩ := ((addf : (⟨S16x512x512, .f32⟩ : BufTy).Contents (Elt F) → (⟨S16x512x512, .f32⟩ : BufTy).Contents (Elt F) → (⟨S16x512x512, .f32⟩ : BufTy).Contents (Elt F))) v70 v74
  let v77 : BufTy.Contents (Elt F) ⟨S16x512x512, .f32⟩ := ((mulf : (⟨S16x512x512, .f32⟩ : BufTy).Contents (Elt F) → (⟨S16x512x512, .f32⟩ : BufTy).Contents (Elt F) → (⟨S16x512x512, .f32⟩ : BufTy).Contents (Elt F))) v76 v75
  let v78 : BufTy.Contents (Elt F) ⟨S16x512x512, .f32⟩ := ((Host.tanh : (⟨S16x512x512, .f32⟩ : BufTy).Contents (Elt F) → (⟨S16x512x512, .f32⟩ : BufTy).Contents (Elt F))) v77
  let v80 : BufTy.Contents (Elt F) ⟨S16x512x512, .f32⟩ := ((addf : (⟨S16x512x512, .f32⟩ : BufTy).Contents (Elt F) → (⟨S16x512x512, .f32⟩ : BufTy).Contents (Elt F) → (⟨S16x512x512, .f32⟩ : BufTy).Contents (Elt F))) v79 v78
  let v82 : BufTy.Contents (Elt F) ⟨S16x512x512, .f32⟩ := ((mulf : (⟨S16x512x512, .f32⟩ : BufTy).Contents (Elt F) → (⟨S16x512x512, .f32⟩ : BufTy).Contents (Elt F) → (⟨S16x512x512, .f32⟩ : BufTy).Contents (Elt F))) v81 v80
  let v83 : BufTy.Contents (Elt F) ⟨S16x512x512, .f32⟩ := ((mulf : (⟨S16x512x512, .f32⟩ : BufTy).Contents (Elt F) → (⟨S16x512x512, .f32⟩ : BufTy).Contents (Elt F) → (⟨S16x512x512, .f32⟩ : BufTy).Contents (Elt F))) v70 v82
  v83

/-- Stage `proj` as a function: the projection to codes. -/
def f_proj (v83 : BufTy.Contents (Elt F) ⟨S16x512x512, .f32⟩) (arg6 : BufTy.Contents (Elt F) ⟨S512x64, .f32⟩) (arg7 : BufTy.Contents (Elt F) ⟨S64, .f32⟩) : BufTy.Contents (Elt F) ⟨S16x512x64, .f32⟩ :=
  let v84 : BufTy.Contents (Elt F) ⟨S16x512x64, .f32⟩ := (((fun l r => Host.dotGeneral dot_S16x512x512_S512x64_S16x512x64_1_0_02_1_n_n none l r) : (⟨S16x512x512, .f32⟩ : BufTy).Contents (Elt F) → (⟨S512x64, .f32⟩ : BufTy).Contents (Elt F) → (⟨S16x512x64, .f32⟩ : BufTy).Contents (Elt F))) v83 arg6
  let v85 : BufTy.Contents (Elt F) ⟨S1x1x64, .f32⟩ := ((broadcastInDim S1x1x64 ![2] bcast_S64_S1x1x64_2 : (⟨S64, .f32⟩ : BufTy).Contents (Elt F) → (⟨S1x1x64, .f32⟩ : BufTy).Contents (Elt F))) arg7
  let v86 : BufTy.Contents (Elt F) ⟨S16x512x64, .f32⟩ := ((broadcastInDim S16x512x64 ![0, 1, 2] bcast_S1x1x64_S16x512x64_0_1_2 : (⟨S1x1x64, .f32⟩ : BufTy).Contents (Elt F) → (⟨S16x512x64, .f32⟩ : BufTy).Contents (Elt F))) v85
  let v87 : BufTy.Contents (Elt F) ⟨S16x512x64, .f32⟩ := ((addf : (⟨S16x512x64, .f32⟩ : BufTy).Contents (Elt F) → (⟨S16x512x64, .f32⟩ : BufTy).Contents (Elt F) → (⟨S16x512x64, .f32⟩ : BufTy).Contents (Elt F))) v84 v86
  v87

/-- Stage `dist` as a function: the squared distances to the codebook rows. -/
def f_dist (v87 : BufTy.Contents (Elt F) ⟨S16x512x64, .f32⟩) (arg8 : BufTy.Contents (Elt F) ⟨S1024x64, .f32⟩) : BufTy.Contents (Elt F) ⟨S16x512x1024, .f32⟩ :=
  let v88 : BufTy.Contents (Elt F) ⟨S16x512x64, .f32⟩ := ((mulf : (⟨S16x512x64, .f32⟩ : BufTy).Contents (Elt F) → (⟨S16x512x64, .f32⟩ : BufTy).Contents (Elt F) → (⟨S16x512x64, .f32⟩ : BufTy).Contents (Elt F))) v87 v87
  let cst_10 : BufTy.Contents (Elt F) ⟨S_, .f32⟩ := ((constant S_ .f32 0x00000000#32))
  let v89 : BufTy.Contents (Elt F) ⟨S16x512, .f32⟩ := (((fun x v => Host.reduceAdd x v reducesTo_S16x512x64_S16x512_d2 h_S_) : (⟨S16x512x64, .f32⟩ : BufTy).Contents (Elt F) → (⟨S_, .f32⟩ : BufTy).Contents (Elt F) → (⟨S16x512, .f32⟩ : BufTy).Contents (Elt F))) v88 cst_10
  let v90 : BufTy.Contents (Elt F) ⟨S16x512x1, .f32⟩ := ((broadcastInDim S16x512x1 ![0, 1] bcast_S16x512_S16x512x1_0_1 : (⟨S16x512, .f32⟩ : BufTy).Contents (Elt F) → (⟨S16x512x1, .f32⟩ : BufTy).Contents (Elt F))) v89
  let v94 : BufTy.Contents (Elt F) ⟨S16x512x1024, .f32⟩ := ((broadcastInDim S16x512x1024 ![0, 1, 2] bcast_S16x512x1_S16x512x1024_0_1_2 : (⟨S16x512x1, .f32⟩ : BufTy).Contents (Elt F) → (⟨S16x512x1024, .f32⟩ : BufTy).Contents (Elt F))) v90
  let cst_11 : BufTy.Contents (Elt F) ⟨S_, .f32⟩ := ((constant S_ .f32 0x40000000#32))
  let v92 : BufTy.Contents (Elt F) ⟨S16x512x1024, .f32⟩ := ((broadcastInDim S16x512x1024 ![] bcast_S_S16x512x1024 : (⟨S_, .f32⟩ : BufTy).Contents (Elt F) → (⟨S16x512x1024, .f32⟩ : BufTy).Contents (Elt F))) cst_11
  let v91 : BufTy.Contents (Elt F) ⟨S16x512x1024, .f32⟩ := (((fun l r => Host.dotGeneral dot_S16x512x64_S1024x64_S16x512x1024_2_1_01_0_n_n none l r) : (⟨S16x512x64, .f32⟩ : BufTy).Contents (Elt F) → (⟨S1024x64, .f32⟩ : BufTy).Contents (Elt F) → (⟨S16x512x1024, .f32⟩ : BufTy).Contents (Elt F))) v87 arg8
  let v93 : BufTy.Contents (Elt F) ⟨S16x512x1024, .f32⟩ := ((mulf : (⟨S16x512x1024, .f32⟩ : BufTy).Contents (Elt F) → (⟨S16x512x1024, .f32⟩ : BufTy).Contents (Elt F) → (⟨S16x512x1024, .f32⟩ : BufTy).Contents (Elt F))) v92 v91
  let v95 : BufTy.Contents (Elt F) ⟨S16x512x1024, .f32⟩ := ((subf : (⟨S16x512x1024, .f32⟩ : BufTy).Contents (Elt F) → (⟨S16x512x1024, .f32⟩ : BufTy).Contents (Elt F) → (⟨S16x512x1024, .f32⟩ : BufTy).Contents (Elt F))) v94 v93
  let v96 : BufTy.Contents (Elt F) ⟨S1024x64, .f32⟩ := ((mulf : (⟨S1024x64, .f32⟩ : BufTy).Contents (Elt F) → (⟨S1024x64, .f32⟩ : BufTy).Contents (Elt F) → (⟨S1024x64, .f32⟩ : BufTy).Contents (Elt F))) arg8 arg8
  let cst_12 : BufTy.Contents (Elt F) ⟨S_, .f32⟩ := ((constant S_ .f32 0x00000000#32))
  let v97 : BufTy.Contents (Elt F) ⟨S1024, .f32⟩ := (((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F))) v96 cst_12
  let v98 : BufTy.Contents (Elt F) ⟨S1x1x1024, .f32⟩ := ((broadcastInDim S1x1x1024 ![2] bcast_S1024_S1x1x1024_2 : (⟨S1024, .f32⟩ : BufTy).Contents (Elt F) → (⟨S1x1x1024, .f32⟩ : BufTy).Contents (Elt F))) v97
  let v99 : BufTy.Contents (Elt F) ⟨S16x512x1024, .f32⟩ := ((broadcastInDim S16x512x1024 ![0, 1, 2] bcast_S1x1x1024_S16x512x1024_0_1_2 : (⟨S1x1x1024, .f32⟩ : BufTy).Contents (Elt F) → (⟨S16x512x1024, .f32⟩ : BufTy).Contents (Elt F))) v98
  let v100 : BufTy.Contents (Elt F) ⟨S16x512x1024, .f32⟩ := ((addf : (⟨S16x512x1024, .f32⟩ : BufTy).Contents (Elt F) → (⟨S16x512x1024, .f32⟩ : BufTy).Contents (Elt F) → (⟨S16x512x1024, .f32⟩ : BufTy).Contents (Elt F))) v95 v99
  v100

/-- Stage `argmin` as a function: the index of the nearest row. -/
def f_argmin (v100 : BufTy.Contents (Elt F) ⟨S16x512x1024, .f32⟩) : BufTy.Contents (Elt F) ⟨S16x512, .i32⟩ :=
  let k2_v0 : BufTy.Contents (Elt F) ⟨S16x512x1024, .i32⟩ := ((iotaInDim S16x512x1024 32 2))
  let k2_cst : BufTy.Contents (Elt F) ⟨S_, .f32⟩ := ((constant S_ .f32 0x7F800000#32))
  let k2_c : BufTy.Contents (Elt F) ⟨S_, .i32⟩ := ((constantI S_ 32 0#32))
  let v101 : BufTy.Contents (Elt F) ⟨S16x512, .i32⟩ := ((fun x y u v j => (Host.argReduce reducer_argmin_f32_i32 x y u v reducesTo_S16x512x1024_S16x512_d2 h_S_ j).2)) v100 k2_v0 k2_cst k2_c
  v101

/-- Stage `fdiv` as a function: the lengths divided by four, rounded down. -/
def f_fdiv (arg1 : BufTy.Contents (Elt F) ⟨S16, .i32⟩) : BufTy.Contents (Elt F) ⟨S16, .i32⟩ :=
  let k3_v3 : BufTy.Contents (Elt F) ⟨S16, .i32⟩ := (signi) arg1
  let c_13 : BufTy.Contents (Elt F) ⟨S_, .i32⟩ := ((constantI S_ 32 4#32))
  let k3_v0 : BufTy.Contents (Elt F) ⟨S_, .i32⟩ := (id) c_13
  let k3_v4 : BufTy.Contents (Elt F) ⟨S_, .i32⟩ := (signi) k3_v0
  let k3_v5 : BufTy.Contents (Elt F) ⟨S16, .i32⟩ := ((broadcastInDim S16 ![] bcast_S_S16)) k3_v4
  let k3_v6 : BufTy.Contents (Elt F) ⟨S16, .i1⟩ := ((cmpi .ne)) k3_v3 k3_v5
  let k3_v7 : BufTy.Contents (Elt F) ⟨S16, .i32⟩ := ((broadcastInDim S16 ![] bcast_S_S16)) k3_v0
  let k3_v8 : BufTy.Contents (Elt F) ⟨S16, .i32⟩ := (Host.remsi) arg1 k3_v7
  let k3_c : BufTy.Contents (Elt F) ⟨S_, .i32⟩ := ((constantI S_ 32 0#32))
  let k3_v9 : BufTy.Contents (Elt F) ⟨S16, .i32⟩ := ((broadcastInDim S16 ![] bcast_S_S16)) k3_c
  let k3_v10 : BufTy.Contents (Elt F) ⟨S16, .i1⟩ := ((cmpi .ne)) k3_v8 k3_v9
  let k3_v11 : BufTy.Contents (Elt F) ⟨S16, .i1⟩ := (andi) k3_v6 k3_v10
  let k3_v1 : BufTy.Contents (Elt F) ⟨S16, .i32⟩ := ((broadcastInDim S16 ![] bcast_S_S16)) k3_v0
  let k3_v2 : BufTy.Contents (Elt F) ⟨S16, .i32⟩ := (Host.divsi) arg1 k3_v1
  let k3_c_0 : BufTy.Contents (Elt F) ⟨S_, .i32⟩ := ((constantI S_ 32 1#32))
  let k3_v12 : BufTy.Contents (Elt F) ⟨S16, .i32⟩ := ((broadcastInDim S16 ![] bcast_S_S16)) k3_c_0
  let k3_v13 : BufTy.Contents (Elt F) ⟨S16, .i32⟩ := (subi) k3_v2 k3_v12
  let v102 : BufTy.Contents (Elt F) ⟨S16, .i32⟩ := (select) k3_v11 k3_v13 k3_v2
  v102

/-- Stage `toks` as a function: the placing of the tokens. -/
def f_toks (v102 : BufTy.Contents (Elt F) ⟨S16, .i32⟩) (v101 : BufTy.Contents (Elt F) ⟨S16x512, .i32⟩) : BufTy.Contents (Elt F) ⟨S16x514, .i32⟩ :=
  let c_17 : BufTy.Contents (Elt F) ⟨S_, .i32⟩ := ((constantI S_ 32 1024#32))
  let v116 : BufTy.Contents (Elt F) ⟨S16x1, .i32⟩ := ((broadcastInDim S16x1 ![] bcast_S_S16x1 : (⟨S_, .i32⟩ : BufTy).Contents (Elt F) → (⟨S16x1, .i32⟩ : BufTy).Contents (Elt F))) c_17
  let v105 : BufTy.Contents (Elt F) ⟨S513, .i32⟩ := ((iotaInDim S513 32 0))
  let v106 : BufTy.Contents (Elt F) ⟨S1x513, .i32⟩ := ((broadcastInDim S1x513 ![1] bcast_S513_S1x513_1 : (⟨S513, .i32⟩ : BufTy).Contents (Elt F) → (⟨S1x513, .i32⟩ : BufTy).Contents (Elt F))) v105
  let v108 : BufTy.Contents (Elt F) ⟨S16x513, .i32⟩ := ((broadcastInDim S16x513 ![0, 1] bcast_S1x513_S16x513_0_1 : (⟨S1x513, .i32⟩ : BufTy).Contents (Elt F) → (⟨S16x513, .i32⟩ : BufTy).Contents (Elt F))) v106
  let v107 : BufTy.Contents (Elt F) ⟨S16x1, .i32⟩ := ((broadcastInDim S16x1 ![0] bcast_S16_S16x1_0 : (⟨S16, .i32⟩ : BufTy).Contents (Elt F) → (⟨S16x1, .i32⟩ : BufTy).Contents (Elt F))) v102
  let v109 : BufTy.Contents (Elt F) ⟨S16x513, .i32⟩ := ((broadcastInDim S16x513 ![0, 1] bcast_S16x1_S16x513_0_1 : (⟨S16x1, .i32⟩ : BufTy).Contents (Elt F) → (⟨S16x513, .i32⟩ : BufTy).Contents (Elt F))) v107
  let v110 : BufTy.Contents (Elt F) ⟨S16x513, .i1⟩ := ((cmpi .eq : (⟨S16x513, .i32⟩ : BufTy).Contents (Elt F) → (⟨S16x513, .i32⟩ : BufTy).Contents (Elt F) → (⟨S16x513, .i1⟩ : BufTy).Contents (Elt F))) v108 v109
  let c_16 : BufTy.Contents (Elt F) ⟨S_, .i32⟩ := ((constantI S_ 32 1025#32))
  let k5_v0 : BufTy.Contents (Elt F) ⟨S_, .i32⟩ := (id) c_16
  let k5_v1 : BufTy.Contents (Elt F) ⟨S16x513, .i32⟩ := ((broadcastInDim S16x513 ![] bcast_S_S16x513)) k5_v0
  let v111 : BufTy.Contents (Elt F) ⟨S16x513, .i32⟩ := ((broadcastInDim S16x513 ![0, 1] bcast_S1x513_S16x513_0_1 : (⟨S1x513, .i32⟩ : BufTy).Contents (Elt F) → (⟨S16x513, .i32⟩ : BufTy).Contents (Elt F))) v106
  let v112 : BufTy.Contents (Elt F) ⟨S16x513, .i32⟩ := ((broadcastInDim S16x513 ![0, 1] bcast_S16x1_S16x513_0_1 : (⟨S16x1, .i32⟩ : BufTy).Contents (Elt F) → (⟨S16x513, .i32⟩ : BufTy).Contents (Elt F))) v107
  let v113 : BufTy.Contents (Elt F) ⟨S16x513, .i1⟩ := ((cmpi .sgt : (⟨S16x513, .i32⟩ : BufTy).Contents (Elt F) → (⟨S16x513, .i32⟩ : BufTy).Contents (Elt F) → (⟨S16x513, .i1⟩ : BufTy).Contents (Elt F))) v111 v112
  let c_15 : BufTy.Contents (Elt F) ⟨S_, .i32⟩ := ((constantI S_ 32 1026#32))
  let k4_v0 : BufTy.Contents (Elt F) ⟨S_, .i32⟩ := (id) c_15
  let k4_v1 : BufTy.Contents (Elt F) ⟨S16x513, .i32⟩ := ((broadcastInDim S16x513 ![] bcast_S_S16x513)) k4_v0
  let c_14 : BufTy.Contents (Elt F) ⟨S_, .i32⟩ := ((constantI S_ 32 1026#32))
  let v103 : BufTy.Contents (Elt F) ⟨S16x1, .i32⟩ := ((broadcastInDim S16x1 ![] bcast_S_S16x1 : (⟨S_, .i32⟩ : BufTy).Contents (Elt F) → (⟨S16x1, .i32⟩ : BufTy).Contents (Elt F))) c_14
  let v104 : BufTy.Contents (Elt F) ⟨S16x513, .i32⟩ := (((fun a b => concatenate S16x513 1 [⟨S16x512, a⟩, ⟨S16x1, b⟩] concatenates_S16x512_S16x1_S16x513_d1) : (⟨S16x512, .i32⟩ : BufTy).Contents (Elt F) → (⟨S16x1, .i32⟩ : BufTy).Contents (Elt F) → (⟨S16x513, .i32⟩ : BufTy).Contents (Elt F))) v101 v103
  let v114 : BufTy.Contents (Elt F) ⟨S16x513, .i32⟩ := (select) v113 k4_v1 v104
  let v115 : BufTy.Contents (Elt F) ⟨S16x513, .i32⟩ := (select) v110 k5_v1 v114
  let v117 : BufTy.Contents (Elt F) ⟨S16x514, .i32⟩ := (((fun a b => concatenate S16x514 1 [⟨S16x1, a⟩, ⟨S16x513, b⟩] concatenates_S16x1_S16x513_S16x514_d1) : (⟨S16x1, .i32⟩ : BufTy).Contents (Elt F) → (⟨S16x513, .i32⟩ : BufTy).Contents (Elt F) → (⟨S16x514, .i32⟩ : BufTy).Contents (Elt F))) v116 v115
  v117

/-- Stage `lens` as a function: the lengths with the two end marks. -/
def f_lens (v102 : BufTy.Contents (Elt F) ⟨S16, .i32⟩) : BufTy.Contents (Elt F) ⟨S16, .i32⟩ :=
  let c_18 : BufTy.Contents (Elt F) ⟨S_, .i32⟩ := ((constantI S_ 32 1#32))
  let v118 : BufTy.Contents (Elt F) ⟨S16, .i32⟩ := ((broadcastInDim S16 ![] bcast_S_S16 : (⟨S_, .i32⟩ : BufTy).Contents (Elt F) → (⟨S16, .i32⟩ : BufTy).Contents (Elt F))) c_18
  let v119 : BufTy.Contents (Elt F) ⟨S16, .i32⟩ := ((addi : (⟨S16, .i32⟩ : BufTy).Contents (Elt F) → (⟨S16, .i32⟩ : BufTy).Contents (Elt F) → (⟨S16, .i32⟩ : BufTy).Contents (Elt F))) v102 v118
  let c_19 : BufTy.Contents (Elt F) ⟨S_, .i32⟩ := ((constantI S_ 32 1#32))
  let v120 : BufTy.Contents (Elt F) ⟨S16, .i32⟩ := ((broadcastInDim S16 ![] bcast_S_S16 : (⟨S_, .i32⟩ : BufTy).Contents (Elt F) → (⟨S16, .i32⟩ : BufTy).Contents (Elt F))) c_19
  let v121 : BufTy.Contents (Elt F) ⟨S16, .i32⟩ := ((addi : (⟨S16, .i32⟩ : BufTy).Contents (Elt F) → (⟨S16, .i32⟩ : BufTy).Contents (Elt F) → (⟨S16, .i32⟩ : BufTy).Contents (Elt F))) v119 v120
  v121

/-- Part 0 of the program is its stages in order. -/
def ops0 : List (HloOp τ sig (Elt F)) := ops_conv1 ++ (ops_gelu1 ++ (ops_conv2a))

/-- Part 0 of the program runs its operations. -/
theorem part0_eq (c : Dev nD) : main_part0 (F := F) c = seq ops0 := rfl

/-- Part 1 of the program is its stages in order. -/
def ops1 : List (HloOp τ sig (Elt F)) := ops_conv2b ++ (ops_gelu2 ++ (ops_proj ++ (ops_dist ++ (ops_argmin ++ (ops_fdiv ++ (ops_pad))))))

/-- Part 1 of the program runs its operations. -/
theorem part1_eq (c : Dev nD) : main_part1 (F := F) c = seq ops1 := rfl

/-- Part 2 of the program is its stages in order. -/
def ops2 : List (HloOp τ sig (Elt F)) := ops_toks ++ (ops_lens)

/-- Part 2 of the program runs its operations. -/
theorem part2_eq (c : Dev nD) : main_part2 (F := F) c = seq ops2 := rfl

/-- The whole program's operations. -/
abbrev ops : List (HloOp τ sig (Elt F)) := ops0 ++ (ops1 ++ ops2)

/-- The program is the sequence of its operations. -/
theorem main_eq (c : Dev nD) : main (F := F) c = seq ops := by
  rw [ops, seq_append, seq_append, ← part0_eq c, ← part1_eq c, ← part2_eq c]
  rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

/-- Stage `conv1` touches declared buffers only. -/
theorem sub_conv1 : (ops_conv1 : List (HloOp τ sig (Elt F))).Forall fun op => op.bufs ⊆ tcRefs τ sig := by
  exact ⟨nullary_bufs_sub .., unary_bufs_sub .., binary_bufs_sub .., unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub ..⟩

/-- Stage `conv1` allocates nothing. -/
theorem fresh_conv1 : (ops_conv1 : List (HloOp τ sig (Elt F))).Forall fun op => op.fresh = ∅ := by
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Stage `gelu1` touches declared buffers only. -/
theorem sub_gelu1 : (ops_gelu1 : List (HloOp τ sig (Elt F))).Forall fun op => op.bufs ⊆ tcRefs τ sig := by
  exact ⟨binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub ..⟩

/-- Stage `gelu1` allocates nothing. -/
theorem fresh_gelu1 : (ops_gelu1 : List (HloOp τ sig (Elt F))).Forall fun op => op.fresh = ∅ := by
  exact ⟨rfl, rfl, rfl, rfl, rfl, rfl, rfl, rfl, rfl, rfl, rfl, rfl, rfl, rfl, rfl, rfl, rfl⟩

/-- Stage `conv2a` touches declared buffers only. -/
theorem sub_conv2a : (ops_conv2a : List (HloOp τ sig (Elt F))).Forall fun op => op.bufs ⊆ tcRefs τ sig := by
  exact ⟨nullary_bufs_sub .., unary_bufs_sub .., binary_bufs_sub .., unary_bufs_sub .., unary_bufs_sub .., reshape_bufs_sub .., binary_bufs_sub .., unary_bufs_sub .., nullary_bufs_sub .., unary_bufs_sub .., binary_bufs_sub .., unary_bufs_sub .., unary_bufs_sub ..⟩

/-- Stage `conv2a` allocates nothing. -/
theorem fresh_conv2a : (ops_conv2a : List (HloOp τ sig (Elt F))).Forall fun op => op.fresh = ∅ := by
  exact ⟨rfl, rfl, rfl, rfl, rfl, rfl, rfl, rfl, rfl, rfl, rfl, rfl, rfl⟩

/-- Stage `conv2b` touches declared buffers only. -/
theorem sub_conv2b : (ops_conv2b : List (HloOp τ sig (Elt F))).Forall fun op => op.bufs ⊆ tcRefs τ sig := by
  exact ⟨reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub ..⟩

/-- Stage `conv2b` allocates nothing. -/
theorem fresh_conv2b : (ops_conv2b : List (HloOp τ sig (Elt F))).Forall fun op => op.fresh = ∅ := by
  exact ⟨rfl, rfl, rfl, rfl, rfl, rfl, rfl, rfl, rfl, rfl, rfl, rfl, rfl, rfl, rfl, rfl, rfl, rfl, rfl⟩

/-- Stage `gelu2` touches declared buffers only. -/
theorem sub_gelu2 : (ops_gelu2 : List (HloOp τ sig (Elt F))).Forall fun op => op.bufs ⊆ tcRefs τ sig := by
  exact ⟨binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub ..⟩

/-- Stage `gelu2` allocates nothing. -/
theorem fresh_gelu2 : (ops_gelu2 : List (HloOp τ sig (Elt F))).Forall fun op => op.fresh = ∅ := by
  exact ⟨rfl, rfl, rfl, rfl, rfl, rfl, rfl, rfl, rfl, rfl, rfl, rfl, rfl, rfl, rfl, rfl, rfl⟩

/-- Stage `proj` touches declared buffers only. -/
theorem sub_proj : (ops_proj : List (HloOp τ sig (Elt F))).Forall fun op => op.bufs ⊆ tcRefs τ sig := by
  exact ⟨binary_bufs_sub .., unary_bufs_sub .., unary_bufs_sub .., binary_bufs_sub ..⟩

/-- Stage `proj` allocates nothing. -/
theorem fresh_proj : (ops_proj : List (HloOp τ sig (Elt F))).Forall fun op => op.fresh = ∅ := by
  exact ⟨rfl, rfl, rfl, rfl⟩

/-- Stage `dist` touches declared buffers only. -/
theorem sub_dist : (ops_dist : List (HloOp τ sig (Elt F))).Forall fun op => op.bufs ⊆ tcRefs τ sig := by
  exact ⟨binary_bufs_sub .., nullary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- Stage `dist` allocates nothing. -/
theorem fresh_dist : (ops_dist : List (HloOp τ sig (Elt F))).Forall fun op => op.fresh = ∅ := by
  exact ⟨rfl, rfl, rfl, rfl, rfl, rfl, rfl, rfl, rfl, rfl, rfl, rfl, rfl, rfl, rfl, rfl⟩

/-- Stage `argmin` touches declared buffers only. -/
theorem sub_argmin : (ops_argmin : List (HloOp τ sig (Elt F))).Forall fun op => op.bufs ⊆ tcRefs τ sig := by
  exact ⟨nullary_bufs_sub .., nullary_bufs_sub .., nullary_bufs_sub .., quaternary_bufs_sub .., quaternary_bufs_sub ..⟩

/-- Stage `argmin` allocates nothing. -/
theorem fresh_argmin : (ops_argmin : List (HloOp τ sig (Elt F))).Forall fun op => op.fresh = ∅ := by
  exact ⟨rfl, rfl, rfl, rfl, rfl⟩

/-- Stage `fdiv` touches declared buffers only. -/
theorem sub_fdiv : (ops_fdiv : List (HloOp τ sig (Elt F))).Forall fun op => op.bufs ⊆ tcRefs τ sig := by
  exact ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- Stage `fdiv` allocates nothing. -/
theorem fresh_fdiv : (ops_fdiv : List (HloOp τ sig (Elt F))).Forall fun op => op.fresh = ∅ := by
  exact ⟨rfl, rfl, rfl, rfl, rfl, rfl, rfl, rfl, rfl, rfl, rfl, rfl, rfl, rfl, rfl, rfl, rfl, rfl⟩

/-- Stage `pad` touches declared buffers only. -/
theorem sub_pad : (ops_pad : List (HloOp τ sig (Elt F))).Forall fun op => op.bufs ⊆ tcRefs τ sig := by
  exact nullary_bufs_sub ..

/-- Stage `pad` allocates nothing. -/
theorem fresh_pad : (ops_pad : List (HloOp τ sig (Elt F))).Forall fun op => op.fresh = ∅ := by
  exact rfl

/-- Stage `toks` touches declared buffers only. -/
theorem sub_toks : (ops_toks : List (HloOp τ sig (Elt F))).Forall fun op => op.bufs ⊆ tcRefs τ sig := by
  exact ⟨unary_bufs_sub .., binary_bufs_sub .., nullary_bufs_sub .., unary_bufs_sub .., unary_bufs_sub .., unary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub ..⟩

/-- Stage `toks` allocates nothing. -/
theorem fresh_toks : (ops_toks : List (HloOp τ sig (Elt F))).Forall fun op => op.fresh = ∅ := by
  exact ⟨rfl, rfl, rfl, rfl, rfl, rfl, rfl, rfl, rfl, rfl, rfl, rfl, rfl, rfl, rfl, rfl, rfl, rfl, rfl, rfl, rfl, rfl⟩

/-- Stage `lens` touches declared buffers only. -/
theorem sub_lens : (ops_lens : List (HloOp τ sig (Elt F))).Forall fun op => op.bufs ⊆ tcRefs τ sig := by
  exact ⟨nullary_bufs_sub .., unary_bufs_sub .., binary_bufs_sub .., nullary_bufs_sub .., unary_bufs_sub .., binary_bufs_sub ..⟩

/-- Stage `lens` allocates nothing. -/
theorem fresh_lens : (ops_lens : List (HloOp τ sig (Elt F))).Forall fun op => op.fresh = ∅ := by
  exact ⟨rfl, rfl, rfl, rfl, rfl, rfl⟩

/-- The program touches declared buffers only. -/
theorem ops_sub : (ops : List (HloOp τ sig (Elt F))).Forall fun op => op.bufs ⊆ tcRefs τ sig := by
  refine List.forall_iff_forall_mem.mpr fun op h => ?_
  simp only [ops, ops0, ops1, ops2, List.mem_append, or_assoc] at h
  rcases h with h | h | h | h | h | h | h | h | h | h | h | h
  exacts [List.forall_iff_forall_mem.mp sub_conv1 op h, List.forall_iff_forall_mem.mp sub_gelu1 op h, List.forall_iff_forall_mem.mp sub_conv2a op h, List.forall_iff_forall_mem.mp sub_conv2b op h, List.forall_iff_forall_mem.mp sub_gelu2 op h, List.forall_iff_forall_mem.mp sub_proj op h, List.forall_iff_forall_mem.mp sub_dist op h, List.forall_iff_forall_mem.mp sub_argmin op h, List.forall_iff_forall_mem.mp sub_fdiv op h, List.forall_iff_forall_mem.mp sub_pad op h, List.forall_iff_forall_mem.mp sub_toks op h, List.forall_iff_forall_mem.mp sub_lens op h]

/-- The program allocates nothing. -/
theorem ops_fresh : ∀ op ∈ (ops : List (HloOp τ sig (Elt F))), op.fresh = ∅ := by
  intro op h
  simp only [ops, ops0, ops1, ops2, List.mem_append, or_assoc] at h
  rcases h with h | h | h | h | h | h | h | h | h | h | h | h
  exacts [List.forall_iff_forall_mem.mp fresh_conv1 op h, List.forall_iff_forall_mem.mp fresh_gelu1 op h, List.forall_iff_forall_mem.mp fresh_conv2a op h, List.forall_iff_forall_mem.mp fresh_conv2b op h, List.forall_iff_forall_mem.mp fresh_gelu2 op h, List.forall_iff_forall_mem.mp fresh_proj op h, List.forall_iff_forall_mem.mp fresh_dist op h, List.forall_iff_forall_mem.mp fresh_argmin op h, List.forall_iff_forall_mem.mp fresh_fdiv op h, List.forall_iff_forall_mem.mp fresh_pad op h, List.forall_iff_forall_mem.mp fresh_toks op h, List.forall_iff_forall_mem.mp fresh_lens op h]

variable (V : Valuation τ sig (Elt F))

/-- What stage `conv1` leaves in its result. -/
theorem read_conv1 : (after ops_conv1 V) (no_index (Proc.devRef .tc main_v28)) = f_conv1 (V (Proc.devRef .tc main_arg2)) (V (Proc.devRef .tc main_arg0)) (V (Proc.devRef .tc main_arg3)) := by
  after_reads_simp
  rfl

/-- Stage `conv1` leaves `main_arg0` alone. -/
theorem keep_conv1_main_arg0 : (after ops_conv1 V) (no_index (Proc.devRef .tc main_arg0)) = V (Proc.devRef .tc main_arg0) := by
  after_reads_simp

/-- Stage `conv1` leaves `main_arg1` alone. -/
theorem keep_conv1_main_arg1 : (after ops_conv1 V) (no_index (Proc.devRef .tc main_arg1)) = V (Proc.devRef .tc main_arg1) := by
  after_reads_simp

/-- Stage `conv1` leaves `main_arg2` alone. -/
theorem keep_conv1_main_arg2 : (after ops_conv1 V) (no_index (Proc.devRef .tc main_arg2)) = V (Proc.devRef .tc main_arg2) := by
  after_reads_simp

/-- Stage `conv1` leaves `main_arg3` alone. -/
theorem keep_conv1_main_arg3 : (after ops_conv1 V) (no_index (Proc.devRef .tc main_arg3)) = V (Proc.devRef .tc main_arg3) := by
  after_reads_simp

/-- Stage `conv1` leaves `main_arg4` alone. -/
theorem keep_conv1_main_arg4 : (after ops_conv1 V) (no_index (Proc.devRef .tc main_arg4)) = V (Proc.devRef .tc main_arg4) := by
  after_reads_simp

/-- Stage `conv1` leaves `main_arg5` alone. -/
theorem keep_conv1_main_arg5 : (after ops_conv1 V) (no_index (Proc.devRef .tc main_arg5)) = V (Proc.devRef .tc main_arg5) := by
  after_reads_simp

/-- Stage `conv1` leaves `main_arg6` alone. -/
theorem keep_conv1_main_arg6 : (after ops_conv1 V) (no_index (Proc.devRef .tc main_arg6)) = V (Proc.devRef .tc main_arg6) := by
  after_reads_simp

/-- Stage `conv1` leaves `main_arg7` alone. -/
theorem keep_conv1_main_arg7 : (after ops_conv1 V) (no_index (Proc.devRef .tc main_arg7)) = V (Proc.devRef .tc main_arg7) := by
  after_reads_simp

/-- Stage `conv1` leaves `main_arg8` alone. -/
theorem keep_conv1_main_arg8 : (after ops_conv1 V) (no_index (Proc.devRef .tc main_arg8)) = V (Proc.devRef .tc main_arg8) := by
  after_reads_simp

/-- What stage `gelu1` leaves in its result. -/
theorem read_gelu1 : (after ops_gelu1 V) (no_index (Proc.devRef .tc main_v41)) = f_gelu1 (V (Proc.devRef .tc main_v28)) := by
  after_reads_simp
  rfl

/-- Stage `gelu1` leaves `main_arg0` alone. -/
theorem keep_gelu1_main_arg0 : (after ops_gelu1 V) (no_index (Proc.devRef .tc main_arg0)) = V (Proc.devRef .tc main_arg0) := by
  after_reads_simp

/-- Stage `gelu1` leaves `main_arg1` alone. -/
theorem keep_gelu1_main_arg1 : (after ops_gelu1 V) (no_index (Proc.devRef .tc main_arg1)) = V (Proc.devRef .tc main_arg1) := by
  after_reads_simp

/-- Stage `gelu1` leaves `main_arg2` alone. -/
theorem keep_gelu1_main_arg2 : (after ops_gelu1 V) (no_index (Proc.devRef .tc main_arg2)) = V (Proc.devRef .tc main_arg2) := by
  after_reads_simp

/-- Stage `gelu1` leaves `main_arg3` alone. -/
theorem keep_gelu1_main_arg3 : (after ops_gelu1 V) (no_index (Proc.devRef .tc main_arg3)) = V (Proc.devRef .tc main_arg3) := by
  after_reads_simp

/-- Stage `gelu1` leaves `main_arg4` alone. -/
theorem keep_gelu1_main_arg4 : (after ops_gelu1 V) (no_index (Proc.devRef .tc main_arg4)) = V (Proc.devRef .tc main_arg4) := by
  after_reads_simp

/-- Stage `gelu1` leaves `main_arg5` alone. -/
theorem keep_gelu1_main_arg5 : (after ops_gelu1 V) (no_index (Proc.devRef .tc main_arg5)) = V (Proc.devRef .tc main_arg5) := by
  after_reads_simp

/-- Stage `gelu1` leaves `main_arg6` alone. -/
theorem keep_gelu1_main_arg6 : (after ops_gelu1 V) (no_index (Proc.devRef .tc main_arg6)) = V (Proc.devRef .tc main_arg6) := by
  after_reads_simp

/-- Stage `gelu1` leaves `main_arg7` alone. -/
theorem keep_gelu1_main_arg7 : (after ops_gelu1 V) (no_index (Proc.devRef .tc main_arg7)) = V (Proc.devRef .tc main_arg7) := by
  after_reads_simp

/-- Stage `gelu1` leaves `main_arg8` alone. -/
theorem keep_gelu1_main_arg8 : (after ops_gelu1 V) (no_index (Proc.devRef .tc main_arg8)) = V (Proc.devRef .tc main_arg8) := by
  after_reads_simp

/-- What stage `conv2` leaves in its result. -/
theorem read_conv2 : (after ops_conv2b (after ops_conv2a V)) (no_index (Proc.devRef .tc main_v70)) = f_conv2 (V (Proc.devRef .tc main_arg4)) (V (Proc.devRef .tc main_v41)) (V (Proc.devRef .tc main_arg5)) := by
  after_reads_simp
  rfl

/-- Stage `conv2` leaves `main_arg0` alone. -/
theorem keep_conv2_main_arg0 : (after ops_conv2b (after ops_conv2a V)) (no_index (Proc.devRef .tc main_arg0)) = V (Proc.devRef .tc main_arg0) := by
  after_reads_simp

/-- Stage `conv2` leaves `main_arg1` alone. -/
theorem keep_conv2_main_arg1 : (after ops_conv2b (after ops_conv2a V)) (no_index (Proc.devRef .tc main_arg1)) = V (Proc.devRef .tc main_arg1) := by
  after_reads_simp

/-- Stage `conv2` leaves `main_arg2` alone. -/
theorem keep_conv2_main_arg2 : (after ops_conv2b (after ops_conv2a V)) (no_index (Proc.devRef .tc main_arg2)) = V (Proc.devRef .tc main_arg2) := by
  after_reads_simp

/-- Stage `conv2` leaves `main_arg3` alone. -/
theorem keep_conv2_main_arg3 : (after ops_conv2b (after ops_conv2a V)) (no_index (Proc.devRef .tc main_arg3)) = V (Proc.devRef .tc main_arg3) := by
  after_reads_simp

/-- Stage `conv2` leaves `main_arg4` alone. -/
theorem keep_conv2_main_arg4 : (after ops_conv2b (after ops_conv2a V)) (no_index (Proc.devRef .tc main_arg4)) = V (Proc.devRef .tc main_arg4) := by
  after_reads_simp

/-- Stage `conv2` leaves `main_arg5` alone. -/
theorem keep_conv2_main_arg5 : (after ops_conv2b (after ops_conv2a V)) (no_index (Proc.devRef .tc main_arg5)) = V (Proc.devRef .tc main_arg5) := by
  after_reads_simp

/-- Stage `conv2` leaves `main_arg6` alone. -/
theorem keep_conv2_main_arg6 : (after ops_conv2b (after ops_conv2a V)) (no_index (Proc.devRef .tc main_arg6)) = V (Proc.devRef .tc main_arg6) := by
  after_reads_simp

/-- Stage `conv2` leaves `main_arg7` alone. -/
theorem keep_conv2_main_arg7 : (after ops_conv2b (after ops_conv2a V)) (no_index (Proc.devRef .tc main_arg7)) = V (Proc.devRef .tc main_arg7) := by
  after_reads_simp

/-- Stage `conv2` leaves `main_arg8` alone. -/
theorem keep_conv2_main_arg8 : (after ops_conv2b (after ops_conv2a V)) (no_index (Proc.devRef .tc main_arg8)) = V (Proc.devRef .tc main_arg8) := by
  after_reads_simp

/-- What stage `gelu2` leaves in its result. -/
theorem read_gelu2 : (after ops_gelu2 V) (no_index (Proc.devRef .tc main_v83)) = f_gelu2 (V (Proc.devRef .tc main_v70)) := by
  after_reads_simp
  rfl

/-- Stage `gelu2` leaves `main_arg0` alone. -/
theorem keep_gelu2_main_arg0 : (after ops_gelu2 V) (no_index (Proc.devRef .tc main_arg0)) = V (Proc.devRef .tc main_arg0) := by
  after_reads_simp

/-- Stage `gelu2` leaves `main_arg1` alone. -/
theorem keep_gelu2_main_arg1 : (after ops_gelu2 V) (no_index (Proc.devRef .tc main_arg1)) = V (Proc.devRef .tc main_arg1) := by
  after_reads_simp

/-- Stage `gelu2` leaves `main_arg2` alone. -/
theorem keep_gelu2_main_arg2 : (after ops_gelu2 V) (no_index (Proc.devRef .tc main_arg2)) = V (Proc.devRef .tc main_arg2) := by
  after_reads_simp

/-- Stage `gelu2` leaves `main_arg3` alone. -/
theorem keep_gelu2_main_arg3 : (after ops_gelu2 V) (no_index (Proc.devRef .tc main_arg3)) = V (Proc.devRef .tc main_arg3) := by
  after_reads_simp

/-- Stage `gelu2` leaves `main_arg4` alone. -/
theorem keep_gelu2_main_arg4 : (after ops_gelu2 V) (no_index (Proc.devRef .tc main_arg4)) = V (Proc.devRef .tc main_arg4) := by
  after_reads_simp

/-- Stage `gelu2` leaves `main_arg5` alone. -/
theorem keep_gelu2_main_arg5 : (after ops_gelu2 V) (no_index (Proc.devRef .tc main_arg5)) = V (Proc.devRef .tc main_arg5) := by
  after_reads_simp

/-- Stage `gelu2` leaves `main_arg6` alone. -/
theorem keep_gelu2_main_arg6 : (after ops_gelu2 V) (no_index (Proc.devRef .tc main_arg6)) = V (Proc.devRef .tc main_arg6) := by
  after_reads_simp

/-- Stage `gelu2` leaves `main_arg7` alone. -/
theorem keep_gelu2_main_arg7 : (after ops_gelu2 V) (no_index (Proc.devRef .tc main_arg7)) = V (Proc.devRef .tc main_arg7) := by
  after_reads_simp

/-- Stage `gelu2` leaves `main_arg8` alone. -/
theorem keep_gelu2_main_arg8 : (after ops_gelu2 V) (no_index (Proc.devRef .tc main_arg8)) = V (Proc.devRef .tc main_arg8) := by
  after_reads_simp

/-- What stage `proj` leaves in its result. -/
theorem read_proj : (after ops_proj V) (no_index (Proc.devRef .tc main_v87)) = f_proj (V (Proc.devRef .tc main_v83)) (V (Proc.devRef .tc main_arg6)) (V (Proc.devRef .tc main_arg7)) := by
  after_reads_simp
  rfl

/-- Stage `proj` leaves `main_arg0` alone. -/
theorem keep_proj_main_arg0 : (after ops_proj V) (no_index (Proc.devRef .tc main_arg0)) = V (Proc.devRef .tc main_arg0) := by
  after_reads_simp

/-- Stage `proj` leaves `main_arg1` alone. -/
theorem keep_proj_main_arg1 : (after ops_proj V) (no_index (Proc.devRef .tc main_arg1)) = V (Proc.devRef .tc main_arg1) := by
  after_reads_simp

/-- Stage `proj` leaves `main_arg2` alone. -/
theorem keep_proj_main_arg2 : (after ops_proj V) (no_index (Proc.devRef .tc main_arg2)) = V (Proc.devRef .tc main_arg2) := by
  after_reads_simp

/-- Stage `proj` leaves `main_arg3` alone. -/
theorem keep_proj_main_arg3 : (after ops_proj V) (no_index (Proc.devRef .tc main_arg3)) = V (Proc.devRef .tc main_arg3) := by
  after_reads_simp

/-- Stage `proj` leaves `main_arg4` alone. -/
theorem keep_proj_main_arg4 : (after ops_proj V) (no_index (Proc.devRef .tc main_arg4)) = V (Proc.devRef .tc main_arg4) := by
  after_reads_simp

/-- Stage `proj` leaves `main_arg5` alone. -/
theorem keep_proj_main_arg5 : (after ops_proj V) (no_index (Proc.devRef .tc main_arg5)) = V (Proc.devRef .tc main_arg5) := by
  after_reads_simp

/-- Stage `proj` leaves `main_arg6` alone. -/
theorem keep_proj_main_arg6 : (after ops_proj V) (no_index (Proc.devRef .tc main_arg6)) = V (Proc.devRef .tc main_arg6) := by
  after_reads_simp

/-- Stage `proj` leaves `main_arg7` alone. -/
theorem keep_proj_main_arg7 : (after ops_proj V) (no_index (Proc.devRef .tc main_arg7)) = V (Proc.devRef .tc main_arg7) := by
  after_reads_simp

/-- Stage `proj` leaves `main_arg8` alone. -/
theorem keep_proj_main_arg8 : (after ops_proj V) (no_index (Proc.devRef .tc main_arg8)) = V (Proc.devRef .tc main_arg8) := by
  after_reads_simp

/-- What stage `dist` leaves in its result. -/
theorem read_dist : (after ops_dist V) (no_index (Proc.devRef .tc main_v100)) = f_dist (V (Proc.devRef .tc main_v87)) (V (Proc.devRef .tc main_arg8)) := by
  after_reads_simp
  rfl

/-- Stage `dist` leaves `main_arg0` alone. -/
theorem keep_dist_main_arg0 : (after ops_dist V) (no_index (Proc.devRef .tc main_arg0)) = V (Proc.devRef .tc main_arg0) := by
  after_reads_simp

/-- Stage `dist` leaves `main_arg1` alone. -/
theorem keep_dist_main_arg1 : (after ops_dist V) (no_index (Proc.devRef .tc main_arg1)) = V (Proc.devRef .tc main_arg1) := by
  after_reads_simp

/-- Stage `dist` leaves `main_arg2` alone. -/
theorem keep_dist_main_arg2 : (after ops_dist V) (no_index (Proc.devRef .tc main_arg2)) = V (Proc.devRef .tc main_arg2) := by
  after_reads_simp

/-- Stage `dist` leaves `main_arg3` alone. -/
theorem keep_dist_main_arg3 : (after ops_dist V) (no_index (Proc.devRef .tc main_arg3)) = V (Proc.devRef .tc main_arg3) := by
  after_reads_simp

/-- Stage `dist` leaves `main_arg4` alone. -/
theorem keep_dist_main_arg4 : (after ops_dist V) (no_index (Proc.devRef .tc main_arg4)) = V (Proc.devRef .tc main_arg4) := by
  after_reads_simp

/-- Stage `dist` leaves `main_arg5` alone. -/
theorem keep_dist_main_arg5 : (after ops_dist V) (no_index (Proc.devRef .tc main_arg5)) = V (Proc.devRef .tc main_arg5) := by
  after_reads_simp

/-- Stage `dist` leaves `main_arg6` alone. -/
theorem keep_dist_main_arg6 : (after ops_dist V) (no_index (Proc.devRef .tc main_arg6)) = V (Proc.devRef .tc main_arg6) := by
  after_reads_simp

/-- Stage `dist` leaves `main_arg7` alone. -/
theorem keep_dist_main_arg7 : (after ops_dist V) (no_index (Proc.devRef .tc main_arg7)) = V (Proc.devRef .tc main_arg7) := by
  after_reads_simp

/-- Stage `dist` leaves `main_arg8` alone. -/
theorem keep_dist_main_arg8 : (after ops_dist V) (no_index (Proc.devRef .tc main_arg8)) = V (Proc.devRef .tc main_arg8) := by
  after_reads_simp

/-- What stage `argmin` leaves in its result. -/
theorem read_argmin : (after ops_argmin V) (no_index (Proc.devRef .tc main_v101)) = f_argmin (V (Proc.devRef .tc main_v100)) := by
  after_reads_simp
  rfl

/-- Stage `argmin` leaves `main_arg0` alone. -/
theorem keep_argmin_main_arg0 : (after ops_argmin V) (no_index (Proc.devRef .tc main_arg0)) = V (Proc.devRef .tc main_arg0) := by
  after_reads_simp

/-- Stage `argmin` leaves `main_arg1` alone. -/
theorem keep_argmin_main_arg1 : (after ops_argmin V) (no_index (Proc.devRef .tc main_arg1)) = V (Proc.devRef .tc main_arg1) := by
  after_reads_simp

/-- Stage `argmin` leaves `main_arg2` alone. -/
theorem keep_argmin_main_arg2 : (after ops_argmin V) (no_index (Proc.devRef .tc main_arg2)) = V (Proc.devRef .tc main_arg2) := by
  after_reads_simp

/-- Stage `argmin` leaves `main_arg3` alone. -/
theorem keep_argmin_main_arg3 : (after ops_argmin V) (no_index (Proc.devRef .tc main_arg3)) = V (Proc.devRef .tc main_arg3) := by
  after_reads_simp

/-- Stage `argmin` leaves `main_arg4` alone. -/
theorem keep_argmin_main_arg4 : (after ops_argmin V) (no_index (Proc.devRef .tc main_arg4)) = V (Proc.devRef .tc main_arg4) := by
  after_reads_simp

/-- Stage `argmin` leaves `main_arg5` alone. -/
theorem keep_argmin_main_arg5 : (after ops_argmin V) (no_index (Proc.devRef .tc main_arg5)) = V (Proc.devRef .tc main_arg5) := by
  after_reads_simp

/-- Stage `argmin` leaves `main_arg6` alone. -/
theorem keep_argmin_main_arg6 : (after ops_argmin V) (no_index (Proc.devRef .tc main_arg6)) = V (Proc.devRef .tc main_arg6) := by
  after_reads_simp

/-- Stage `argmin` leaves `main_arg7` alone. -/
theorem keep_argmin_main_arg7 : (after ops_argmin V) (no_index (Proc.devRef .tc main_arg7)) = V (Proc.devRef .tc main_arg7) := by
  after_reads_simp

/-- Stage `argmin` leaves `main_arg8` alone. -/
theorem keep_argmin_main_arg8 : (after ops_argmin V) (no_index (Proc.devRef .tc main_arg8)) = V (Proc.devRef .tc main_arg8) := by
  after_reads_simp

/-- What stage `fdiv` leaves in its result. -/
theorem read_fdiv : (after ops_fdiv V) (no_index (Proc.devRef .tc main_v102)) = f_fdiv (V (Proc.devRef .tc main_arg1)) := by
  after_reads_simp
  rfl

/-- Stage `fdiv` leaves `main_arg0` alone. -/
theorem keep_fdiv_main_arg0 : (after ops_fdiv V) (no_index (Proc.devRef .tc main_arg0)) = V (Proc.devRef .tc main_arg0) := by
  after_reads_simp

/-- Stage `fdiv` leaves `main_arg1` alone. -/
theorem keep_fdiv_main_arg1 : (after ops_fdiv V) (no_index (Proc.devRef .tc main_arg1)) = V (Proc.devRef .tc main_arg1) := by
  after_reads_simp

/-- Stage `fdiv` leaves `main_arg2` alone. -/
theorem keep_fdiv_main_arg2 : (after ops_fdiv V) (no_index (Proc.devRef .tc main_arg2)) = V (Proc.devRef .tc main_arg2) := by
  after_reads_simp

/-- Stage `fdiv` leaves `main_arg3` alone. -/
theorem keep_fdiv_main_arg3 : (after ops_fdiv V) (no_index (Proc.devRef .tc main_arg3)) = V (Proc.devRef .tc main_arg3) := by
  after_reads_simp

/-- Stage `fdiv` leaves `main_arg4` alone. -/
theorem keep_fdiv_main_arg4 : (after ops_fdiv V) (no_index (Proc.devRef .tc main_arg4)) = V (Proc.devRef .tc main_arg4) := by
  after_reads_simp

/-- Stage `fdiv` leaves `main_arg5` alone. -/
theorem keep_fdiv_main_arg5 : (after ops_fdiv V) (no_index (Proc.devRef .tc main_arg5)) = V (Proc.devRef .tc main_arg5) := by
  after_reads_simp

/-- Stage `fdiv` leaves `main_arg6` alone. -/
theorem keep_fdiv_main_arg6 : (after ops_fdiv V) (no_index (Proc.devRef .tc main_arg6)) = V (Proc.devRef .tc main_arg6) := by
  after_reads_simp

/-- Stage `fdiv` leaves `main_arg7` alone. -/
theorem keep_fdiv_main_arg7 : (after ops_fdiv V) (no_index (Proc.devRef .tc main_arg7)) = V (Proc.devRef .tc main_arg7) := by
  after_reads_simp

/-- Stage `fdiv` leaves `main_arg8` alone. -/
theorem keep_fdiv_main_arg8 : (after ops_fdiv V) (no_index (Proc.devRef .tc main_arg8)) = V (Proc.devRef .tc main_arg8) := by
  after_reads_simp

/-- Stage `fdiv` leaves `main_v101` alone. -/
theorem keep_fdiv_main_v101 : (after ops_fdiv V) (no_index (Proc.devRef .tc main_v101)) = V (Proc.devRef .tc main_v101) := by
  after_reads_simp

/-- What stage `toks` leaves in its result. -/
theorem read_toks : (after ops_toks (after ops_pad V)) (no_index (Proc.devRef .tc main_v117)) = f_toks (V (Proc.devRef .tc main_v102)) (V (Proc.devRef .tc main_v101)) := by
  after_reads_simp
  rfl

/-- Stage `toks` leaves `main_arg0` alone. -/
theorem keep_toks_main_arg0 : (after ops_toks (after ops_pad V)) (no_index (Proc.devRef .tc main_arg0)) = V (Proc.devRef .tc main_arg0) := by
  after_reads_simp

/-- Stage `toks` leaves `main_arg1` alone. -/
theorem keep_toks_main_arg1 : (after ops_toks (after ops_pad V)) (no_index (Proc.devRef .tc main_arg1)) = V (Proc.devRef .tc main_arg1) := by
  after_reads_simp

/-- Stage `toks` leaves `main_arg2` alone. -/
theorem keep_toks_main_arg2 : (after ops_toks (after ops_pad V)) (no_index (Proc.devRef .tc main_arg2)) = V (Proc.devRef .tc main_arg2) := by
  after_reads_simp

/-- Stage `toks` leaves `main_arg3` alone. -/
theorem keep_toks_main_arg3 : (after ops_toks (after ops_pad V)) (no_index (Proc.devRef .tc main_arg3)) = V (Proc.devRef .tc main_arg3) := by
  after_reads_simp

/-- Stage `toks` leaves `main_arg4` alone. -/
theorem keep_toks_main_arg4 : (after ops_toks (after ops_pad V)) (no_index (Proc.devRef .tc main_arg4)) = V (Proc.devRef .tc main_arg4) := by
  after_reads_simp

/-- Stage `toks` leaves `main_arg5` alone. -/
theorem keep_toks_main_arg5 : (after ops_toks (after ops_pad V)) (no_index (Proc.devRef .tc main_arg5)) = V (Proc.devRef .tc main_arg5) := by
  after_reads_simp

/-- Stage `toks` leaves `main_arg6` alone. -/
theorem keep_toks_main_arg6 : (after ops_toks (after ops_pad V)) (no_index (Proc.devRef .tc main_arg6)) = V (Proc.devRef .tc main_arg6) := by
  after_reads_simp

/-- Stage `toks` leaves `main_arg7` alone. -/
theorem keep_toks_main_arg7 : (after ops_toks (after ops_pad V)) (no_index (Proc.devRef .tc main_arg7)) = V (Proc.devRef .tc main_arg7) := by
  after_reads_simp

/-- Stage `toks` leaves `main_arg8` alone. -/
theorem keep_toks_main_arg8 : (after ops_toks (after ops_pad V)) (no_index (Proc.devRef .tc main_arg8)) = V (Proc.devRef .tc main_arg8) := by
  after_reads_simp

/-- Stage `toks` leaves `main_v102` alone. -/
theorem keep_toks_main_v102 : (after ops_toks (after ops_pad V)) (no_index (Proc.devRef .tc main_v102)) = V (Proc.devRef .tc main_v102) := by
  after_reads_simp

/-- What stage `lens` leaves in its result. -/
theorem read_lens : (after ops_lens V) (no_index (Proc.devRef .tc main_v121)) = f_lens (V (Proc.devRef .tc main_v102)) := by
  after_reads_simp
  rfl

/-- Stage `lens` leaves `main_arg0` alone. -/
theorem keep_lens_main_arg0 : (after ops_lens V) (no_index (Proc.devRef .tc main_arg0)) = V (Proc.devRef .tc main_arg0) := by
  after_reads_simp

/-- Stage `lens` leaves `main_arg1` alone. -/
theorem keep_lens_main_arg1 : (after ops_lens V) (no_index (Proc.devRef .tc main_arg1)) = V (Proc.devRef .tc main_arg1) := by
  after_reads_simp

/-- Stage `lens` leaves `main_arg2` alone. -/
theorem keep_lens_main_arg2 : (after ops_lens V) (no_index (Proc.devRef .tc main_arg2)) = V (Proc.devRef .tc main_arg2) := by
  after_reads_simp

/-- Stage `lens` leaves `main_arg3` alone. -/
theorem keep_lens_main_arg3 : (after ops_lens V) (no_index (Proc.devRef .tc main_arg3)) = V (Proc.devRef .tc main_arg3) := by
  after_reads_simp

/-- Stage `lens` leaves `main_arg4` alone. -/
theorem keep_lens_main_arg4 : (after ops_lens V) (no_index (Proc.devRef .tc main_arg4)) = V (Proc.devRef .tc main_arg4) := by
  after_reads_simp

/-- Stage `lens` leaves `main_arg5` alone. -/
theorem keep_lens_main_arg5 : (after ops_lens V) (no_index (Proc.devRef .tc main_arg5)) = V (Proc.devRef .tc main_arg5) := by
  after_reads_simp

/-- Stage `lens` leaves `main_arg6` alone. -/
theorem keep_lens_main_arg6 : (after ops_lens V) (no_index (Proc.devRef .tc main_arg6)) = V (Proc.devRef .tc main_arg6) := by
  after_reads_simp

/-- Stage `lens` leaves `main_arg7` alone. -/
theorem keep_lens_main_arg7 : (after ops_lens V) (no_index (Proc.devRef .tc main_arg7)) = V (Proc.devRef .tc main_arg7) := by
  after_reads_simp

/-- Stage `lens` leaves `main_arg8` alone. -/
theorem keep_lens_main_arg8 : (after ops_lens V) (no_index (Proc.devRef .tc main_arg8)) = V (Proc.devRef .tc main_arg8) := by
  after_reads_simp

/-- Stage `lens` leaves `main_v117` alone. -/
theorem keep_lens_main_v117 : (after ops_lens V) (no_index (Proc.devRef .tc main_v117)) = V (Proc.devRef .tc main_v117) := by
  after_reads_simp

/-- The contents after the whole program, stage by stage. -/
theorem after_ops : after ops V = after ops_lens (after ops_toks (after ops_pad (after ops_fdiv (after ops_argmin (after ops_dist (after ops_proj (after ops_gelu2 (after ops_conv2b (after ops_conv2a (after ops_gelu1 (after ops_conv1 V))))))))))) := by
  simp only [ops, ops0, ops1, ops2, after_append]

/-- The two convolutions with their gelus and the projection: the codes before quantisation. -/
def f_codes (x : BufTy.Contents (Elt F) ⟨S16x128x2048, .f32⟩) (w1 : BufTy.Contents (Elt F) ⟨S512x128x4, .f32⟩) (b1 : BufTy.Contents (Elt F) ⟨S512, .f32⟩) (w2 : BufTy.Contents (Elt F) ⟨S512x512x4, .f32⟩)
    (b2 : BufTy.Contents (Elt F) ⟨S512, .f32⟩) (wp : BufTy.Contents (Elt F) ⟨S512x64, .f32⟩) (bp : BufTy.Contents (Elt F) ⟨S64, .f32⟩) : BufTy.Contents (Elt F) ⟨S16x512x64, .f32⟩ :=
  f_proj (f_gelu2 (f_conv2 w2 (f_gelu1 (f_conv1 w1 x b1)) b2)) wp bp

/-- The token result of the program. -/
theorem after_tokens : after ops V (Proc.devRef .tc main_v117) = f_toks (f_fdiv (V (Proc.devRef .tc main_arg1))) (f_argmin (f_dist (f_codes (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7))) (V (Proc.devRef .tc main_arg8)))) := by
  rw [after_ops]
  simp only [f_codes, read_conv1, read_gelu1, read_conv2, read_gelu2, read_proj, read_dist, read_argmin, read_fdiv, read_toks, read_lens, keep_conv1_main_arg0, keep_conv1_main_arg1, keep_conv1_main_arg2, keep_conv1_main_arg3, keep_conv1_main_arg4, keep_conv1_main_arg5, keep_conv1_main_arg6, keep_conv1_main_arg7, keep_conv1_main_arg8, keep_gelu1_main_arg0, keep_gelu1_main_arg1, keep_gelu1_main_arg2, keep_gelu1_main_arg3, keep_gelu1_main_arg4, keep_gelu1_main_arg5, keep_gelu1_main_arg6, keep_gelu1_main_arg7, keep_gelu1_main_arg8, keep_conv2_main_arg0, keep_conv2_main_arg1, keep_conv2_main_arg2, keep_conv2_main_arg3, keep_conv2_main_arg4, keep_conv2_main_arg5, keep_conv2_main_arg6, keep_conv2_main_arg7, keep_conv2_main_arg8, keep_gelu2_main_arg0, keep_gelu2_main_arg1, keep_gelu2_main_arg2, keep_gelu2_main_arg3, keep_gelu2_main_arg4, keep_gelu2_main_arg5, keep_gelu2_main_arg6, keep_gelu2_main_arg7, keep_gelu2_main_arg8, keep_proj_main_arg0, keep_proj_main_arg1, keep_proj_main_arg2, keep_proj_main_arg3, keep_proj_main_arg4, keep_proj_main_arg5, keep_proj_main_arg6, keep_proj_main_arg7, keep_proj_main_arg8, keep_dist_main_arg0, keep_dist_main_arg1, keep_dist_main_arg2, keep_dist_main_arg3, keep_dist_main_arg4, keep_dist_main_arg5, keep_dist_main_arg6, keep_dist_main_arg7, keep_dist_main_arg8, keep_argmin_main_arg0, keep_argmin_main_arg1, keep_argmin_main_arg2, keep_argmin_main_arg3, keep_argmin_main_arg4, keep_argmin_main_arg5, keep_argmin_main_arg6, keep_argmin_main_arg7, keep_argmin_main_arg8, keep_fdiv_main_arg0, keep_fdiv_main_arg1, keep_fdiv_main_arg2, keep_fdiv_main_arg3, keep_fdiv_main_arg4, keep_fdiv_main_arg5, keep_fdiv_main_arg6, keep_fdiv_main_arg7, keep_fdiv_main_arg8, keep_toks_main_arg0, keep_toks_main_arg1, keep_toks_main_arg2, keep_toks_main_arg3, keep_toks_main_arg4, keep_toks_main_arg5, keep_toks_main_arg6, keep_toks_main_arg7, keep_toks_main_arg8, keep_lens_main_arg0, keep_lens_main_arg1, keep_lens_main_arg2, keep_lens_main_arg3, keep_lens_main_arg4, keep_lens_main_arg5, keep_lens_main_arg6, keep_lens_main_arg7, keep_lens_main_arg8, keep_fdiv_main_v101, keep_toks_main_v102, keep_lens_main_v117]

/-- The length result of the program. -/
theorem after_lengths : after ops V (Proc.devRef .tc main_v121) = f_lens (f_fdiv (V (Proc.devRef .tc main_arg1))) := by
  rw [after_ops]
  simp only [read_conv1, read_gelu1, read_conv2, read_gelu2, read_proj, read_dist, read_argmin, read_fdiv, read_toks, read_lens, keep_conv1_main_arg0, keep_conv1_main_arg1, keep_conv1_main_arg2, keep_conv1_main_arg3, keep_conv1_main_arg4, keep_conv1_main_arg5, keep_conv1_main_arg6, keep_conv1_main_arg7, keep_conv1_main_arg8, keep_gelu1_main_arg0, keep_gelu1_main_arg1, keep_gelu1_main_arg2, keep_gelu1_main_arg3, keep_gelu1_main_arg4, keep_gelu1_main_arg5, keep_gelu1_main_arg6, keep_gelu1_main_arg7, keep_gelu1_main_arg8, keep_conv2_main_arg0, keep_conv2_main_arg1, keep_conv2_main_arg2, keep_conv2_main_arg3, keep_conv2_main_arg4, keep_conv2_main_arg5, keep_conv2_main_arg6, keep_conv2_main_arg7, keep_conv2_main_arg8, keep_gelu2_main_arg0, keep_gelu2_main_arg1, keep_gelu2_main_arg2, keep_gelu2_main_arg3, keep_gelu2_main_arg4, keep_gelu2_main_arg5, keep_gelu2_main_arg6, keep_gelu2_main_arg7, keep_gelu2_main_arg8, keep_proj_main_arg0, keep_proj_main_arg1, keep_proj_main_arg2, keep_proj_main_arg3, keep_proj_main_arg4, keep_proj_main_arg5, keep_proj_main_arg6, keep_proj_main_arg7, keep_proj_main_arg8, keep_dist_main_arg0, keep_dist_main_arg1, keep_dist_main_arg2, keep_dist_main_arg3, keep_dist_main_arg4, keep_dist_main_arg5, keep_dist_main_arg6, keep_dist_main_arg7, keep_dist_main_arg8, keep_argmin_main_arg0, keep_argmin_main_arg1, keep_argmin_main_arg2, keep_argmin_main_arg3, keep_argmin_main_arg4, keep_argmin_main_arg5, keep_argmin_main_arg6, keep_argmin_main_arg7, keep_argmin_main_arg8, keep_fdiv_main_arg0, keep_fdiv_main_arg1, keep_fdiv_main_arg2, keep_fdiv_main_arg3, keep_fdiv_main_arg4, keep_fdiv_main_arg5, keep_fdiv_main_arg6, keep_fdiv_main_arg7, keep_fdiv_main_arg8, keep_toks_main_arg0, keep_toks_main_arg1, keep_toks_main_arg2, keep_toks_main_arg3, keep_toks_main_arg4, keep_toks_main_arg5, keep_toks_main_arg6, keep_toks_main_arg7, keep_toks_main_arg8, keep_lens_main_arg0, keep_lens_main_arg1, keep_lens_main_arg2, keep_lens_main_arg3, keep_lens_main_arg4, keep_lens_main_arg5, keep_lens_main_arg6, keep_lens_main_arg7, keep_lens_main_arg8, keep_fdiv_main_v101, keep_toks_main_v102, keep_lens_main_v117]

/-- No operation writes argument 0. -/
theorem after_arg0 : after ops V (Proc.devRef .tc main_arg0) = V (Proc.devRef .tc main_arg0) := by
  rw [after_ops]
  simp only [keep_conv1_main_arg0, keep_gelu1_main_arg0, keep_conv2_main_arg0, keep_gelu2_main_arg0, keep_proj_main_arg0, keep_dist_main_arg0, keep_argmin_main_arg0, keep_fdiv_main_arg0, keep_toks_main_arg0, keep_lens_main_arg0]

/-- No operation writes argument 1. -/
theorem after_arg1 : after ops V (Proc.devRef .tc main_arg1) = V (Proc.devRef .tc main_arg1) := by
  rw [after_ops]
  simp only [keep_conv1_main_arg1, keep_gelu1_main_arg1, keep_conv2_main_arg1, keep_gelu2_main_arg1, keep_proj_main_arg1, keep_dist_main_arg1, keep_argmin_main_arg1, keep_fdiv_main_arg1, keep_toks_main_arg1, keep_lens_main_arg1]

/-- No operation writes argument 2. -/
theorem after_arg2 : after ops V (Proc.devRef .tc main_arg2) = V (Proc.devRef .tc main_arg2) := by
  rw [after_ops]
  simp only [keep_conv1_main_arg2, keep_gelu1_main_arg2, keep_conv2_main_arg2, keep_gelu2_main_arg2, keep_proj_main_arg2, keep_dist_main_arg2, keep_argmin_main_arg2, keep_fdiv_main_arg2, keep_toks_main_arg2, keep_lens_main_arg2]

/-- No operation writes argument 3. -/
theorem after_arg3 : after ops V (Proc.devRef .tc main_arg3) = V (Proc.devRef .tc main_arg3) := by
  rw [after_ops]
  simp only [keep_conv1_main_arg3, keep_gelu1_main_arg3, keep_conv2_main_arg3, keep_gelu2_main_arg3, keep_proj_main_arg3, keep_dist_main_arg3, keep_argmin_main_arg3, keep_fdiv_main_arg3, keep_toks_main_arg3, keep_lens_main_arg3]

/-- No operation writes argument 4. -/
theorem after_arg4 : after ops V (Proc.devRef .tc main_arg4) = V (Proc.devRef .tc main_arg4) := by
  rw [after_ops]
  simp only [keep_conv1_main_arg4, keep_gelu1_main_arg4, keep_conv2_main_arg4, keep_gelu2_main_arg4, keep_proj_main_arg4, keep_dist_main_arg4, keep_argmin_main_arg4, keep_fdiv_main_arg4, keep_toks_main_arg4, keep_lens_main_arg4]

/-- No operation writes argument 5. -/
theorem after_arg5 : after ops V (Proc.devRef .tc main_arg5) = V (Proc.devRef .tc main_arg5) := by
  rw [after_ops]
  simp only [keep_conv1_main_arg5, keep_gelu1_main_arg5, keep_conv2_main_arg5, keep_gelu2_main_arg5, keep_proj_main_arg5, keep_dist_main_arg5, keep_argmin_main_arg5, keep_fdiv_main_arg5, keep_toks_main_arg5, keep_lens_main_arg5]

/-- No operation writes argument 6. -/
theorem after_arg6 : after ops V (Proc.devRef .tc main_arg6) = V (Proc.devRef .tc main_arg6) := by
  rw [after_ops]
  simp only [keep_conv1_main_arg6, keep_gelu1_main_arg6, keep_conv2_main_arg6, keep_gelu2_main_arg6, keep_proj_main_arg6, keep_dist_main_arg6, keep_argmin_main_arg6, keep_fdiv_main_arg6, keep_toks_main_arg6, keep_lens_main_arg6]

/-- No operation writes argument 7. -/
theorem after_arg7 : after ops V (Proc.devRef .tc main_arg7) = V (Proc.devRef .tc main_arg7) := by
  rw [after_ops]
  simp only [keep_conv1_main_arg7, keep_gelu1_main_arg7, keep_conv2_main_arg7, keep_gelu2_main_arg7, keep_proj_main_arg7, keep_dist_main_arg7, keep_argmin_main_arg7, keep_fdiv_main_arg7, keep_toks_main_arg7, keep_lens_main_arg7]

/-- No operation writes argument 8. -/
theorem after_arg8 : after ops V (Proc.devRef .tc main_arg8) = V (Proc.devRef .tc main_arg8) := by
  rw [after_ops]
  simp only [keep_conv1_main_arg8, keep_gelu1_main_arg8, keep_conv2_main_arg8, keep_gelu2_main_arg8, keep_proj_main_arg8, keep_dist_main_arg8, keep_argmin_main_arg8, keep_fdiv_main_arg8, keep_toks_main_arg8, keep_lens_main_arg8]

variable (m : (ℓ : Loc nD τ sig) → Buf (Elt F) ℓ) (ρ : Dev nD → PrngReg)

/-- Every execution of the program ends with the two results at these functions of the arguments, which end as they were. -/
theorem run : θ_run (defs (F := F)) (onTc (τ := τ) (main (F := F))) ⟨m, fun _ => 0, ρ⟩ fun r => ∀ c : Dev nD,
      r.2.mem ((c.tc : Thread nD τ).loc main_v117) = f_toks (f_fdiv (m ((c.tc : Thread nD τ).loc main_arg1))) (f_argmin (f_dist (f_codes (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8))))
      ∧ r.2.mem ((c.tc : Thread nD τ).loc main_v121) = f_lens (f_fdiv (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  θ_run_mono (run_seq scopedRefs_eq scopedSems_eq defs main (fun _ => ops) main_eq (fun _ => ops_sub) m ρ fun _ => ops_fresh)
    fun r h c => ⟨(h c main_v117).trans (after_tokens (launchContents m c)), (h c main_v121).trans (after_lengths (launchContents m c)),
      (h c main_arg0).trans (after_arg0 (launchContents m c)), (h c main_arg1).trans (after_arg1 (launchContents m c)), (h c main_arg2).trans (after_arg2 (launchContents m c)), (h c main_arg3).trans (after_arg3 (launchContents m c)), (h c main_arg4).trans (after_arg4 (launchContents m c)), (h c main_arg5).trans (after_arg5 (launchContents m c)), (h c main_arg6).trans (after_arg6 (launchContents m c)), (h c main_arg7).trans (after_arg7 (launchContents m c)), (h c main_arg8).trans (after_arg8 (launchContents m c))⟩

/-- Every execution of the program ends with the arguments as they were and every counter at zero: the program has no counter. -/
theorem frame : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0 :=
  θ_run_mono (run m ρ) fun r h => ⟨fun c => (h c).2.2, sem_eq_zero_of_no_sems (by decide) r.2⟩

end Cert.ReferenceIdeal.Stage

end
-- ==== Proof.Spec.lean ====
/-
  The encoder's values as plain functions on extended reals, for one sequence: the two strided convolutions with their
  gelus, the code vector of each token, its distances to the rows of the codebook, its scores against them, and the word
  written at each place of the result. Both programs are read down to these.
-/
module

public import Idealize.ShloMosaic.Lib.Pointwise

@[expose] public section

noncomputable section

namespace Cert.Spec

open Idealize.ShloMosaic

/-- A row with one zero on each side, read at place `n` of the padded row. -/
def padded {T : ℕ} (u : Fin T → EReal) (n : ℕ) : EReal :=
  if h : 1 ≤ n ∧ n - 1 < T then u ⟨n - 1, h.2⟩ else 0

/-- Inside, the padded row is the row one place earlier. -/
theorem padded_in {T : ℕ} (u : Fin T → EReal) (n : ℕ) (h1 : 1 ≤ n) (h2 : n - 1 < T) : padded u n = u ⟨n - 1, h2⟩ := by
  unfold padded; rw [dif_pos ⟨h1, h2⟩]

/-- Place zero of the padded row is zero. -/
theorem padded_zero {T : ℕ} (u : Fin T → EReal) : padded u 0 = 0 := by
  unfold padded; rw [dif_neg (by omega)]

/-- Past the row, the padded row is zero. -/
theorem padded_end {T : ℕ} (u : Fin T → EReal) (n : ℕ) (h : T < n) : padded u n = 0 := by
  unfold padded; rw [dif_neg (by omega)]

/-- One output of a convolution of width four and stride two, with its bias. -/
def conv {C T : ℕ} (w : Fin C → Fin 4 → EReal) (u : Fin C → Fin T → EReal) (b : EReal) (t : ℕ) : EReal :=
  ((((∑ c, w c 0 * padded (u c) (2 * t)) + ∑ c, w c 1 * padded (u c) (1 + 2 * t))
    + ∑ c, w c 2 * padded (u c) (2 + 2 * t)) + ∑ c, w c 3 * padded (u c) (3 + 2 * t)) + b

/-- The gelu in its tanh form, its four constants as printed. -/
def gelu (v : EReal) : EReal :=
  v * (Ideal.ofBits FTy.f32 0x3F000000#32 * (1 + Ideal.tanh (Ideal.ofBits FTy.f32 0x3F4C422A#32
    * (v + Ideal.ofBits FTy.f32 0x3D372713#32 * (v * v * v)))))

/-- A layer: convolution, then gelu. -/
def layer {C T : ℕ} (w : Fin C → Fin 4 → EReal) (u : Fin C → Fin T → EReal) (b : EReal) (t : ℕ) : EReal :=
  gelu (conv w u b t)

/-- A coordinate of a token's code vector: the projection of the features, with its bias. -/
def code (h : Fin 512 → EReal) (w : Fin 512 → EReal) (b : EReal) : EReal := ∑ c, h c * w c + b

/-- The squared distance of a code vector to a row, expanded. -/
def dist (z r : Fin 64 → EReal) : EReal :=
  ∑ d, z d * z d - Ideal.ofBits FTy.f32 0x40000000#32 * ∑ d, z d * r d + ∑ d, r d * r d

/-- The score of a code vector against a row: the product less half the row's square. -/
def score (z r : Fin 64 → EReal) : EReal :=
  ∑ d, z d * r d + Ideal.ofBits FTy.f32 0xBF000000#32 * ∑ d, r d * r d

/-- The code vectors of one sequence, from its features and the weights. -/
def codes (x : Fin 128 → Fin 2048 → EReal) (w1 : Fin 512 → Fin 128 → Fin 4 → EReal) (b1 : Fin 512 → EReal)
    (w2 : Fin 512 → Fin 512 → Fin 4 → EReal) (b2 : Fin 512 → EReal) (wp : Fin 512 → Fin 64 → EReal) (bp : Fin 64 → EReal)
    (t : Fin 512) (d : Fin 64) : EReal :=
  code (fun c => layer (w2 c) (fun c' (t' : Fin 1024) => layer (w1 c') x (b1 c') t') (b2 c) t) (fun c => wp c d) (bp d)

/-- The word at place `j` of a sequence's tokens, from the length word and the tokens' words. -/
def place (len : BitVec 32) (tok : Fin 512 → BitVec 32) (j : ℕ) : BitVec 32 :=
  if j < 1 then 1024#32
  else if BitVec.ofNat 32 (j - 1) = len then 1025#32
  else if len.slt (BitVec.ofNat 32 (j - 1)) then 1026#32
  else if h : j - 1 < 512 then tok ⟨j - 1, h⟩ else 1026#32

end Cert.Spec

end
-- ==== Proof.Finite.lean ====
/-
  Real values: the features of real arguments are real, and on real values the row of highest score is the row of least distance.
-/
module

public import proofs.«01_k».proof.Proof.Spec

@[expose] public section

noncomputable section

namespace Cert.Spec

open Idealize.ShloMosaic

/-- A value that is a real number. -/
def IsReal (x : EReal) : Prop := ∃ r : ℝ, x = (r : EReal)

/-- A value below both infinities is real. -/
theorem IsReal.of_ne {x : EReal} (h1 : x ≠ ⊤) (h2 : x ≠ ⊥) : IsReal x := ⟨x.toReal, (EReal.coe_toReal h1 h2).symm⟩

/-- Zero is real. -/
theorem IsReal.zero : IsReal 0 := ⟨0, rfl⟩

/-- One is real. -/
theorem IsReal.one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The hyperbolic tangent of a real is real. -/
theorem IsReal.tanh {x : EReal} (hx : IsReal x) : IsReal (Ideal.tanh x) := by
  obtain ⟨a, rfl⟩ := hx; exact ⟨Real.tanh a, rfl⟩

/-- A finite sum of coerced reals is the coerced sum. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A finite sum of reals is real. -/
theorem IsReal.sum {ι : Type} [Fintype ι] {f : ι → EReal} (h : ∀ i, IsReal (f i)) : IsReal (∑ i, f i) := by
  choose g hg using h
  exact ⟨∑ i, g i, (Finset.sum_congr rfl fun i _ => hg i).trans (coe_sum _ g)⟩

/-- The printed two. -/
theorem two : Ideal.ofBits FTy.f32 0x40000000#32 = ((2 : ℝ) : EReal) := by
  simp [Ideal.ofBits, Ideal.ieee]
  rw [← EReal.coe_mul, EReal.coe_eq_coe_iff]; norm_num

/-- The printed minus one half. -/
theorem neg_half : Ideal.ofBits FTy.f32 0xBF000000#32 = ((-1 / 2 : ℝ) : EReal) := by
  simp [Ideal.ofBits, Ideal.ieee]
  rw [← EReal.coe_mul, ← EReal.coe_neg, EReal.coe_eq_coe_iff]; norm_num

/-- The printed constants of gelu are real. -/
theorem gelu_consts : IsReal (Ideal.ofBits FTy.f32 0x3F000000#32) ∧ IsReal (Ideal.ofBits FTy.f32 0x3F4C422A#32)
    ∧ IsReal (Ideal.ofBits FTy.f32 0x3D372713#32) := by
  refine ⟨IsReal.of_ne ?_ ?_, IsReal.of_ne ?_ ?_, IsReal.of_ne ?_ ?_⟩ <;> simp [Ideal.ofBits, Ideal.ieee] <;>
    first
    | exact EReal.coe_ne_top (_ * _)
    | exact EReal.coe_ne_bot (_ * _)

/-- A row of reals, padded, is real. -/
theorem padded_real {T : ℕ} {u : Fin T → EReal} (h : ∀ t, IsReal (u t)) (n : ℕ) : IsReal (padded u n) := by
  unfold padded; split
  · exact h _
  · exact IsReal.zero

/-- A layer of reals is real. -/
theorem layer_real {C T : ℕ} {w : Fin C → Fin 4 → EReal} {u : Fin C → Fin T → EReal} {b : EReal} (hw : ∀ c k, IsReal (w c k))
    (hu : ∀ c t, IsReal (u c t)) (hb : IsReal b) (t : ℕ) : IsReal (layer w u b t) := by
  have hs : ∀ k n, IsReal (∑ c, w c k * padded (u c) n) := fun k n => IsReal.sum fun c => (hw c k).mul (padded_real (hu c) n)
  have hv : IsReal (conv w u b t) := ((((hs 0 _).add (hs 1 _)).add (hs 2 _)).add (hs 3 _)).add hb
  obtain ⟨h1, h2, h3⟩ := gelu_consts
  exact hv.mul (h1.mul (IsReal.one.add (IsReal.tanh (h2.mul (hv.add (h3.mul ((hv.mul hv).mul hv)))))))

/-- The code vectors of real arguments are real. -/
theorem codes_real {x : Fin 128 → Fin 2048 → EReal} {w1 : Fin 512 → Fin 128 → Fin 4 → EReal} {b1 : Fin 512 → EReal}
    {w2 : Fin 512 → Fin 512 → Fin 4 → EReal} {b2 : Fin 512 → EReal} {wp : Fin 512 → Fin 64 → EReal} {bp : Fin 64 → EReal}
    (hx : ∀ c t, IsReal (x c t)) (hw1 : ∀ o c k, IsReal (w1 o c k)) (hb1 : ∀ o, IsReal (b1 o)) (hw2 : ∀ o c k, IsReal (w2 o c k))
    (hb2 : ∀ o, IsReal (b2 o)) (hwp : ∀ c d, IsReal (wp c d)) (hbp : ∀ d, IsReal (bp d)) (t : Fin 512) (d : Fin 64) :
    IsReal (codes x w1 b1 w2 b2 wp bp t d) :=
  (IsReal.sum fun c => (layer_real (hw2 c) (fun c' t' => layer_real (hw1 c') hx (hb1 c') _) (hb2 c) _).mul (hwp c d)).add (hbp d)

/-- On real vectors, the distance is the vector's square less twice the score. -/
theorem dist_score {z : Fin 64 → EReal} (hz : ∀ d, IsReal (z d)) : ∃ a : ℝ, ∀ r : Fin 64 → EReal, (∀ d, IsReal (r d)) →
    ∃ s : ℝ, score z r = (s : EReal) ∧ Spec.dist z r = ((a - 2 * s : ℝ) : EReal) := by
  choose x hx using hz
  refine ⟨∑ d, x d * x d, fun r hr => ?_⟩
  choose y hy using hr
  have e1 : ∑ d, z d * r d = ((∑ d, x d * y d : ℝ) : EReal) :=
    (Finset.sum_congr rfl fun d _ => by rw [hx, hy, EReal.coe_mul]).trans (coe_sum _ fun d => x d * y d)
  have e2 : ∑ d, r d * r d = ((∑ d, y d * y d : ℝ) : EReal) :=
    (Finset.sum_congr rfl fun d _ => by rw [hy, EReal.coe_mul]).trans (coe_sum _ fun d => y d * y d)
  have e3 : ∑ d, z d * z d = ((∑ d, x d * x d : ℝ) : EReal) :=
    (Finset.sum_congr rfl fun d _ => by rw [hx, EReal.coe_mul]).trans (coe_sum _ fun d => x d * x d)
  refine ⟨∑ d, x d * y d + -1 / 2 * ∑ d, y d * y d, ?_, ?_⟩
  · unfold score
    rw [e1, e2, neg_half, ← EReal.coe_mul, ← EReal.coe_add]
  · unfold Spec.dist
    rw [e1, e2, e3, two, ← EReal.coe_mul, ← EReal.coe_sub, ← EReal.coe_add]
    exact congrArg _ (by ring)

/-- The first row of highest score is the first row of least distance, and that distance is finite. -/
theorem nearest {z : Fin 64 → EReal} (hz : ∀ d, IsReal (z d)) {r : Fin 1024 → Fin 64 → EReal} (hr : ∀ k d, IsReal (r k d))
    {k₀ : Fin 1024} (hmax : ∀ k, score z (r k) ≤ score z (r k₀)) (hfirst : ∀ k, k < k₀ → score z (r k) < score z (r k₀)) :
    Spec.dist z (r k₀) < ⊤ ∧ (∀ k, Spec.dist z (r k₀) ≤ Spec.dist z (r k))
      ∧ ∀ k, k < k₀ → Spec.dist z (r k₀) < Spec.dist z (r k) := by
  obtain ⟨a, ha⟩ := dist_score hz
  choose s hs hd using fun k => ha (r k) (hr k)
  refine ⟨?_, fun k => ?_, fun k hk => ?_⟩
  · rw [hd]; exact EReal.coe_lt_top _
  · have h := hmax k
    rw [hs, hs, EReal.coe_le_coe_iff] at h
    rw [hd, hd, EReal.coe_le_coe_iff]; linarith
  · have h := hfirst k hk
    rw [hs, hs, EReal.coe_lt_coe_iff] at h
    rw [hd, hd, EReal.coe_lt_coe_iff]; linarith

end Cert.Spec

end
-- ==== Proof.Pre.lean ====
/-
  The precondition read back: every float argument is real.
-/
module

public import proofs.«01_k».proof.Pre_finite
public import proofs.«01_k».proof.Proof.Finite
public import Idealize.ShloMosaic.Lib.ReduceAll
public import Idealize.ShloMosaic.Lib.Claim

@[expose] public section

set_option maxRecDepth 16384

noncomputable section

namespace Cert.Pre_finite

open Idealize.ShloMosaic Cert.Spec

/-- The shape relations of the precondition hold. -/
theorem facts : Facts := by
  constructor <;> decide

/-- The scalar shape has one index. -/
instance : Subsingleton S_.Idx := ⟨fun a b => funext fun i => i.elim0⟩

/-- The printed infinity. -/
theorem infinity : Ideal.ofBits FTy.f32 0x7F800000#32 = ⊤ := by
  simp [Ideal.ofBits, Ideal.ieee]

/-- An absolute value below infinity is a real's. -/
theorem real_of_lt {x : EReal} (h : Ideal.cmp .olt (max x (-x)) (Ideal.ofBits FTy.f32 0x7F800000#32) = 1#1) : IsReal x := by
  rw [infinity] at h
  have hlt : max x (-x) < ⊤ := by
    by_contra hn
    simp [Ideal.cmp, hn] at h
  obtain ⟨h1, h2⟩ := max_lt_iff.1 hlt
  refine IsReal.of_ne h1.ne fun hb => ?_
  rw [hb, EReal.neg_bot] at h2
  exact lt_irrefl _ h2

variable [Facts]
open Facts

/-- One conjunct of the precondition: an array all of whose absolute values are below infinity is real. -/
theorem all_real {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : IsReal (x i) :=
  real_of_lt (Host.reduce_andi_all _ _ h hu j e i)

/-- Under the precondition every entry of every float argument is real. -/
theorem real (a0 : FVec Ideal S16x128x2048 .f32) (a1 : IVec S16 32) (a2 : FVec Ideal S512x128x4 .f32) (a3 : FVec Ideal S512 .f32)
    (a4 : FVec Ideal S512x512x4 .f32) (a5 : FVec Ideal S512 .f32) (a6 : FVec Ideal S512x64 .f32) (a7 : FVec Ideal S64 .f32)
    (a8 : FVec Ideal S1024x64 .f32) (h : fn a0 a1 a2 a3 a4 a5 a6 a7 a8 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ ∀ i, IsReal (a8 i) := by
  have e := congrFun h (Shape.Idx.first h_S_)
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨all_real a0 _ _ _ _ e0, all_real a2 _ _ _ _ e2, all_real a3 _ _ _ _ e3, all_real a4 _ _ _ _ e4, all_real a5 _ _ _ _ e5,
    all_real a6 _ _ _ _ e6, all_real a7 _ _ _ _ e7, all_real a8 _ _ _ _ e8⟩

end Cert.Pre_finite

end
-- ==== Proof.Words.lean ====
/-
  Words: choices by their order and equality, their order against naturals, and the quarter of a word rounded down, as the
  two programs spell it.
-/
module

public import proofs.«01_k».proof.Proof.Spec
public import Idealize.ShloMosaic.Lib.Pointwise
public import Idealize.ShloMosaic.PureOps.Ideal.Laws

@[expose] public section

set_option maxRecDepth 16384

noncomputable section

namespace Cert.Spec

open Idealize.ShloMosaic

/-- A choice by an equality of words. -/
theorem select_eq {α : Type} (a b : BitVec 32) (x y : α) :
    Scalar.select (IntOp.cmpi CmpIPredicate.eq a b) x y = if a = b then x else y := by
  rw [show IntOp.cmpi CmpIPredicate.eq a b = BitVec.ofBool (decide (a = b)) from rfl]
  by_cases h : a = b
  · rw [if_pos h, decide_eq_true h]; rfl
  · rw [if_neg h, decide_eq_false h]; rfl

/-- A choice by the signed order of words. -/
theorem select_sgt {α : Type} (a b : BitVec 32) (x y : α) :
    Scalar.select (IntOp.cmpi CmpIPredicate.sgt a b) x y = if b.slt a then x else y := by
  rw [show IntOp.cmpi CmpIPredicate.sgt a b = BitVec.ofBool (b.slt a) from rfl]
  cases b.slt a <;> rfl

/-- Words of naturals below `2 ^ 31` compare as the naturals. -/
theorem slt_ofNat (a b : ℕ) (ha : a < 2 ^ 31) (hb : b < 2 ^ 31) :
    (BitVec.ofNat 32 a).slt (BitVec.ofNat 32 b) = decide (a < b) := by
  have e : ∀ n : ℕ, n < 2 ^ 31 → (BitVec.ofNat 32 n).toInt = n := fun n hn => by
    rw [BitVec.toInt_eq_toNat_of_lt (by rw [BitVec.toNat_ofNat]; omega), BitVec.toNat_ofNat]; omega
  rw [BitVec.slt, e a ha, e b hb]
  simp

/-- The quarter of a word, rounded down. -/
def quarter (w : BitVec 32) : BitVec 32 :=
  if (w.slt 0#32 && w.srem 4#32 != 0#32) = true then w.sdiv 4#32 - 1#32 else w.sdiv 4#32

/-- Four is no corner of the signed division. -/
theorem not_corner (w : BitVec 32) : ¬ IntOp.SDivCorner w 4#32 := by
  rintro (h | ⟨_, h⟩) <;> exact absurd h (by decide)

/-- The signed division by four, on any unit. -/
theorem divsi_four (u : ArithUnit) (w : BitVec 32) : IntOp.divsi u w 4#32 = w.sdiv 4#32 := if_neg (not_corner w)

/-- The remainder by four, on any unit. -/
theorem remsi_four (u : ArithUnit) (w : BitVec 32) : IntOp.remsi u w 4#32 = w.srem 4#32 := if_neg (not_corner w)

/-- A word neither above nor below zero is zero. -/
theorem zero_of_not_slt (w : BitVec 32) (h1 : (0#32).slt w = false) (h2 : w.slt 0#32 = false) : w = 0#32 := by
  rw [BitVec.slt] at h1 h2
  have e : (0#32 : BitVec 32).toInt = 0 := rfl
  rw [e] at h1 h2
  exact BitVec.eq_of_toInt_eq (by rw [e]; have := of_decide_eq_false h1; have := of_decide_eq_false h2; omega)

/-- The kernel's spelling of the choice, over the three bits it depends on. -/
theorem bits_kernel (a b e : Bool) (x y : BitVec 32) :
    Scalar.select (Scalar.andi (Scalar.cmpi CmpIPredicate.ne (Scalar.subi (Scalar.extui (BitVec.ofBool a)) (Scalar.extui (BitVec.ofBool b)))
        (Scalar.subi (Scalar.extui (Scalar.cmpi CmpIPredicate.sgt 4#32 0#32)) (Scalar.extui (Scalar.cmpi CmpIPredicate.slt 4#32 0#32))))
      (BitVec.ofBool e)) x y = if (!(a && !b) && e) = true then x else y := by
  cases a <;> cases b <;> cases e <;> rfl

/-- The kernel's floor division of the length is the quarter rounded down. -/
theorem quarter_kernel (w : BitVec 32) :
    Scalar.select
        (Scalar.andi
          (Scalar.cmpi CmpIPredicate.ne
            (Scalar.subi (Scalar.extui (Scalar.cmpi CmpIPredicate.sgt w 0#32)) (Scalar.extui (Scalar.cmpi CmpIPredicate.slt w 0#32)))
            (Scalar.subi (Scalar.extui (Scalar.cmpi CmpIPredicate.sgt 4#32 0#32)) (Scalar.extui (Scalar.cmpi CmpIPredicate.slt 4#32 0#32))))
          (Scalar.cmpi CmpIPredicate.ne (Scalar.remsi w 4#32) 0#32))
        (Scalar.subi (Scalar.divsi w 4#32) 1#32) (Scalar.divsi w 4#32) = quarter w := by
  rw [show Scalar.remsi w 4#32 = w.srem 4#32 from remsi_four _ w, show Scalar.divsi w 4#32 = w.sdiv 4#32 from divsi_four _ w]
  refine (bits_kernel ((0#32).slt w) (w.slt 0#32) (w.srem 4#32 != 0#32) _ _).trans ?_
  unfold quarter
  by_cases h : (0#32).slt w = false ∧ w.slt 0#32 = false
  · obtain rfl := zero_of_not_slt w h.1 h.2
    rfl
  · revert h
    cases (0#32).slt w <;> cases w.slt 0#32 <;> cases (w.srem 4#32 != 0#32) <;> intro h <;> first | rfl | exact absurd ⟨rfl, rfl⟩ h

/-- The reference's spelling of the sign of a word. -/
def sign (w : BitVec 32) : BitVec 32 := if w = 0 then 0 else if w.msb then -1 else 1

/-- The reference's floor division of the length is the quarter rounded down. -/
theorem quarter_host (w : BitVec 32) :
    Scalar.select (IntOp.andi (IntOp.cmpi CmpIPredicate.ne (sign w) (sign 4#32))
        (IntOp.cmpi CmpIPredicate.ne (IntOp.remsi ArithUnit.host w 4#32) 0#32))
      (IntOp.subi (IntOp.divsi ArithUnit.host w 4#32) 1#32) (IntOp.divsi ArithUnit.host w 4#32) = quarter w := by
  rw [remsi_four, divsi_four]
  unfold quarter
  by_cases h : w = 0
  · subst h; rfl
  · have hs : sign w = if w.slt 0#32 then -1#32 else 1#32 := by
      unfold sign; rw [if_neg h, BitVec.slt_zero_eq_msb]; rfl
    rw [hs]
    show Scalar.select (BitVec.ofBool _ &&& BitVec.ofBool (w.srem 4#32 != 0#32)) _ _ = _
    cases w.slt 0#32 <;> cases (w.srem 4#32 != 0#32) <;> rfl

/-- The smaller of the words of naturals below `2 ^ 31`, from the left. -/
theorem minsi_ofNat (a b : ℕ) (ha : a < 2 ^ 31) (hb : b < 2 ^ 31) (h : a ≤ b) :
    IntOp.minsi (BitVec.ofNat 32 a) (BitVec.ofNat 32 b) = BitVec.ofNat 32 a := by
  unfold IntOp.minsi
  rw [slt_ofNat a b ha hb]
  by_cases hab : a < b
  · rw [decide_eq_true hab]; rfl
  · rw [decide_eq_false hab, show b = a by omega]; rfl

/-- The first place of the greatest of 1024 values. -/
theorem exists_first (s : Fin 1024 → EReal) : ∃ k₀ : Fin 1024, (∀ k, s k ≤ s k₀) ∧ ∀ k, k < k₀ → s k < s k₀ := by
  obtain ⟨a, -, ha⟩ := Finset.exists_max_image Finset.univ s ⟨0, Finset.mem_univ _⟩
  obtain ⟨k₀, h₀, hm⟩ := wellFounded_lt.has_min {k : Fin 1024 | ∀ j, s j ≤ s k} ⟨a, fun j => ha j (Finset.mem_univ _)⟩
  refine ⟨k₀, h₀, fun k hk => ?_⟩
  by_contra hn
  exact hm k (fun j => (h₀ j).trans (not_lt.1 hn)) hk

/-- The running maximum of 1024 values, from `⊥`, is the greatest of them. -/
theorem fold_max (s : Fin 1024 → EReal) (k₀ : Fin 1024) (h : ∀ k, s k ≤ s k₀) :
    Finset.fold max (⊥ : EReal) s Finset.univ = s k₀ := by
  refine le_antisymm ?_ ?_
  · exact Finset.fold_max_le _ |>.2 ⟨bot_le, fun k _ => h k⟩
  · exact Finset.le_fold_max _ |>.2 (.inr ⟨k₀, Finset.mem_univ _, le_rfl⟩)

/-- The running minimum of the words of the places of the greatest value, a greater word elsewhere, is the first such
    place's word. -/
theorem fold_first (s : Fin 1024 → EReal) (k₀ : Fin 1024) (hf : ∀ k, k < k₀ → s k < s k₀)
    (f : Fin 1024 → BitVec 32) (hfe : ∀ k, f k = if s k = s k₀ then BitVec.ofNat 32 k else 1024#32) :
    Finset.fold IntOp.minsi 2147483647#32 f Finset.univ = BitVec.ofNat 32 k₀ := by
  have key : ∀ S : Finset (Fin 1024),
      IntOp.minsi (BitVec.ofNat 32 k₀) (Finset.fold IntOp.minsi 2147483647#32 f S) = BitVec.ofNat 32 k₀ := by
    intro S
    induction S using Finset.induction_on with
    | empty => exact minsi_ofNat k₀ 2147483647 (by omega) (by norm_num) (by omega)
    | insert a S ha ih =>
      rw [Finset.fold_insert ha, ← Std.Associative.assoc (op := IntOp.minsi (w := 32))]
      have : IntOp.minsi (BitVec.ofNat 32 k₀) (f a) = BitVec.ofNat 32 k₀ := by
        rw [hfe]
        by_cases h : s a = s k₀
        · rw [if_pos h]
          exact minsi_ofNat k₀ a (by omega) (by omega) (not_lt.1 fun hlt => (hf a hlt).ne h)
        · rw [if_neg h]
          exact minsi_ofNat k₀ 1024 (by omega) (by norm_num) (by omega)
      rw [this, ih]
  have h := Finset.insert_erase (Finset.mem_univ k₀)
  rw [← h, Finset.fold_insert (Finset.notMem_erase _ _), hfe, if_pos rfl]
  exact key _

end Cert.Spec

end
-- ==== Proof.RefVal.lean ====
/-
  The reference's stages read at an index: each is the plain function of Spec.lean, and the nearest code is the first row
  of least distance.
-/
module

public import proofs.«01_k».proof.Proof.RefRun
public import proofs.«01_k».proof.Proof.Words
public import Idealize.ShloMosaic.Lib.Pointwise
public import Idealize.ShloMosaic.PureOps.Ideal.Laws

@[expose] public section

set_option maxRecDepth 16384

noncomputable section

namespace Cert.ReferenceIdeal.Stage

open Cert.ReferenceIdeal Cert.ReferenceIdeal.Gen Idealize.ShloMosaic Idealize.ShloMosaic.TcCoe Cert.Spec

/-- The word zero as a float is zero. -/
theorem sitofp_zero : (FloatOps.sitofp (F := Ideal) FTy.f32 (0#32) : EReal) = 0 := by
  show (((0#32 : BitVec 32).toInt : ℝ) : EReal) = 0
  simp

/-- The first convolution at an index. -/
theorem conv1_at (w : BufTy.Contents (Elt Ideal) ⟨S512x128x4, .f32⟩) (x : BufTy.Contents (Elt Ideal) ⟨S16x128x2048, .f32⟩)
    (b : BufTy.Contents (Elt Ideal) ⟨S512, .f32⟩) (i : Fin 16) (o : Fin 512) (t : Fin 1024) :
    f_conv1 (F := Ideal) w x b (ix3 i o t)
      = conv (fun c k => w (ix3 o c k)) (fun c s => x (ix3 i c s)) (b (ix1 o)) t := by
  pointwise [f_conv1]
  simp only [sitofp_zero]
  unfold conv
  congr 4
  refine Finset.sum_congr rfl fun c _ => congrArg _ ?_
  unfold padded
  have e : (1 ≤ 1 + 2 * (t : ℕ) ∧ 1 + 2 * (t : ℕ) - 1 < 2048) := by omega
  rw [dif_pos e, dif_pos (by omega)]
  congr 3
  omega

/-- The first gelu at an index. -/
theorem gelu1_at (v : BufTy.Contents (Elt Ideal) ⟨S16x512x1024, .f32⟩) (i : Fin 16) (o : Fin 512) (t : Fin 1024) :
    f_gelu1 (F := Ideal) v (ix3 i o t) = gelu (v (ix3 i o t)) := by
  pointwise [f_gelu1, gelu]

/-- The second convolution at an index. -/
theorem conv2_at (w : BufTy.Contents (Elt Ideal) ⟨S512x512x4, .f32⟩) (x : BufTy.Contents (Elt Ideal) ⟨S16x512x1024, .f32⟩)
    (b : BufTy.Contents (Elt Ideal) ⟨S512, .f32⟩) (i : Fin 16) (o : Fin 512) (t : Fin 512) :
    f_conv2 (F := Ideal) w x b (ix3 i o t)
      = conv (fun c k => w (ix3 o c k)) (fun c s => x (ix3 i c s)) (b (ix1 o)) t := by
  pointwise [f_conv2]
  simp only [sitofp_zero]
  unfold conv
  congr 4
  refine Finset.sum_congr rfl fun c _ => congrArg _ ?_
  unfold padded
  have e : (1 ≤ 1 + 2 * (t : ℕ) ∧ 1 + 2 * (t : ℕ) - 1 < 1024) := by omega
  rw [dif_pos e, dif_pos (by omega)]
  congr 3
  omega

/-- The second gelu at an index. -/
theorem gelu2_at (v : BufTy.Contents (Elt Ideal) ⟨S16x512x512, .f32⟩) (i : Fin 16) (o : Fin 512) (t : Fin 512) :
    f_gelu2 (F := Ideal) v (ix3 i o t) = gelu (v (ix3 i o t)) := by
  pointwise [f_gelu2, gelu]

/-- The projection at an index. -/
theorem proj_at (v : BufTy.Contents (Elt Ideal) ⟨S16x512x512, .f32⟩) (w : BufTy.Contents (Elt Ideal) ⟨S512x64, .f32⟩)
    (b : BufTy.Contents (Elt Ideal) ⟨S64, .f32⟩) (i : Fin 16) (t : Fin 512) (d : Fin 64) :
    f_proj (F := Ideal) v w b (ix3 i t d) = code (fun c => v (ix3 i c t)) (fun c => w (ix2 c d)) (b (ix1 d)) := by
  pointwise [f_proj, code]

/-- The code vectors at an index. -/
theorem codes_at (x : BufTy.Contents (Elt Ideal) ⟨S16x128x2048, .f32⟩) (w1 : BufTy.Contents (Elt Ideal) ⟨S512x128x4, .f32⟩)
    (b1 : BufTy.Contents (Elt Ideal) ⟨S512, .f32⟩) (w2 : BufTy.Contents (Elt Ideal) ⟨S512x512x4, .f32⟩)
    (b2 : BufTy.Contents (Elt Ideal) ⟨S512, .f32⟩) (wp : BufTy.Contents (Elt Ideal) ⟨S512x64, .f32⟩)
    (bp : BufTy.Contents (Elt Ideal) ⟨S64, .f32⟩) (i : Fin 16) (t : Fin 512) (d : Fin 64) :
    f_codes (F := Ideal) x w1 b1 w2 b2 wp bp (ix3 i t d)
      = codes (fun c s => x (ix3 i c s)) (fun o c k => w1 (ix3 o c k)) (fun o => b1 (ix1 o)) (fun o c k => w2 (ix3 o c k))
          (fun o => b2 (ix1 o)) (fun c d => wp (ix2 c d)) (fun d => bp (ix1 d)) t d := by
  unfold f_codes codes layer
  rw [proj_at]
  simp only [gelu2_at, conv2_at, gelu1_at, conv1_at]

/-- The distances at an index. -/
theorem dist_at (v : BufTy.Contents (Elt Ideal) ⟨S16x512x64, .f32⟩) (cb : BufTy.Contents (Elt Ideal) ⟨S1024x64, .f32⟩)
    (i : Fin 16) (t : Fin 512) (k : Fin 1024) :
    f_dist (F := Ideal) v cb (ix3 i t k) = Spec.dist (fun d => v (ix3 i t d)) (fun d => cb (ix2 k d)) := by
  pointwise [f_dist, Spec.dist]

/-- The arg-min's step keeps the pair of the smaller value, and of two equal values the pair of the smaller index. -/
theorem step_eq (a b : EReal × BitVec 32) :
    reducer_argmin_f32_i32 (F := Ideal) a b
      = (if a.1 < b.1 then a.1 else b.1, if a.1 < b.1 ∨ (a.1 = b.1 ∧ a.2.slt b.2 = true) then a.2 else b.2) := by
  unfold reducer_argmin_f32_i32
  simp only [Ideal.cmpf_def, Ideal.cmp, IntOp.cmpi, IntOp.ori, IntOp.andi, Scalar.select]
  by_cases h1 : a.1 < b.1 <;> by_cases h2 : a.1 = b.1 <;> by_cases h3 : a.2.slt b.2 = true <;> simp [h1, h2, h3]

/-- A fold that meets `m`, which absorbs everything it meets from either side, ends at `m`. -/
theorem foldl_absorb {α : Type} (f : α → α → α) (S : α → Prop) (m : α) (hS : ∀ a b, S a → S b → S (f a b))
    (hl : ∀ a, S a → f m a = m) (hr : ∀ a, S a → f a m = m) :
    ∀ (L : List α) (a : α), S a → (∀ p ∈ L, S p) → (a = m ∨ m ∈ L) → L.foldl f a = m
  | [], a, _, _, h => by
      rcases h with h | h
      · exact h
      · cases h
  | p :: L, a, ha, hL, h => by
      rw [List.foldl_cons]
      have hp : S p := hL p (List.mem_cons_self ..)
      refine foldl_absorb f S m hS hl hr L _ (hS a p ha hp) (fun q hq => hL q (List.mem_cons_of_mem _ hq)) ?_
      rcases h with rfl | h
      · exact .inl (hl p hp)
      · rcases List.mem_cons.1 h with rfl | h
        · exact .inl (hr a ha)
        · exact .inr h

/-- The pairs the arg-min at an index runs over: the row's values, each with its index's word. -/
theorem mem_fiber (v : FVec Ideal S16x512x1024 .f32) (y : S16x512x1024.Idx → BitVec 32) (i : Fin 16) (t : Fin 512)
    (p : Ideal .f32 × BitVec 32) :
    p ∈ Host.argReduceFiber v y reducesTo_S16x512x1024_S16x512_d2 (ix2 i t)
      ↔ ∃ k : Fin 1024, p = (v (ix3 i t k), y (ix3 i t k)) := by
  unfold Host.argReduceFiber
  generalize hR : S16x512x1024.rowMajor = R
  clear hR
  revert R
  generalize S16x512x1024.numel = N
  intro R
  simp only [List.mem_map, List.mem_filter, List.mem_finRange, true_and, decide_eq_true_eq]
  constructor
  · rintro ⟨n, hn, rfl⟩
    generalize R.symm n = j at hn ⊢
    have h0 : (j 0 : ℕ) = i := by
      have := reducesTo_S16x512x1024_S16x512_d2.drop_apply_val_of_eq j 0 0
      rw [hn] at this; exact this.symm
    have h1 : (j 1 : ℕ) = t := by
      have := reducesTo_S16x512x1024_S16x512_d2.drop_apply_val_of_eq j 1 1
      rw [hn] at this; exact this.symm
    have hj : j = ix3 i t (j 2) := by
      rw [eq_ix3 j]
      exact congrArg₂ (fun a b => ix3 a b (j 2)) (Fin.ext h0) (Fin.ext h1)
    exact ⟨j 2, congrArg (fun q => (v q, y q)) hj⟩
  · rintro ⟨k, rfl⟩
    refine ⟨R (ix3 i t k), ?_, by rw [Equiv.symm_apply_apply]⟩
    rw [Equiv.symm_apply_apply, eq_ix2 (Shape.ReducesTo.drop _ _)]
    exact congrArg₂ ix2 (Fin.ext (reducesTo_S16x512x1024_S16x512_d2.drop_apply_val_of_eq (ix3 i t k) 0 0))
      (Fin.ext (reducesTo_S16x512x1024_S16x512_d2.drop_apply_val_of_eq (ix3 i t k) 1 1))

/-- The arg-min's fold over a list of rows' values with their words: where row `k₀` is below `⊤` and is the first of the
    least, its pair. -/
theorem fold_min (u : Fin 1024 → EReal) (k₀ : Fin 1024) (htop : u k₀ < ⊤) (hmin : ∀ k, u k₀ ≤ u k)
    (hfirst : ∀ k, k < k₀ → u k₀ < u k) (L : List (EReal × BitVec 32))
    (hL : ∀ p, p ∈ L ↔ ∃ k : Fin 1024, p = (u k, BitVec.ofNat 32 k)) :
    L.foldl (reducer_argmin_f32_i32 (F := Ideal)) ((⊤ : EReal), 0#32) = (u k₀, BitVec.ofNat 32 k₀) := by
  refine foldl_absorb (reducer_argmin_f32_i32 (F := Ideal))
    (fun p => p = ((⊤ : EReal), 0#32) ∨ ∃ k : Fin 1024, p = (u k, BitVec.ofNat 32 k))
    (u k₀, BitVec.ofNat 32 k₀) ?_ ?_ ?_ L
    ((⊤ : EReal), 0#32) (.inl rfl) (fun p hp => .inr ((hL p).1 hp)) (.inr ((hL _).2 ⟨k₀, rfl⟩))
  · intro a b ha hb
    rw [step_eq]
    by_cases h1 : a.1 < b.1
    · rw [if_pos h1, if_pos (.inl h1)]; exact ha
    · rw [if_neg h1]
      by_cases h2 : a.1 = b.1 ∧ a.2.slt b.2 = true
      · rw [if_pos (.inr h2), ← h2.1]; exact ha
      · rw [if_neg (not_or.2 ⟨h1, h2⟩)]; exact hb
  · intro a ha
    rw [step_eq]
    rcases ha with rfl | ⟨k, rfl⟩
    · simp only [htop, true_or, if_true]
    · by_cases h1 : u k₀ < u k
      · simp only [h1, true_or, if_true]
      · have he : u k₀ = u k := le_antisymm (hmin k) (not_lt.1 h1)
        have hk : k₀ ≤ k := not_lt.1 fun hk => h1 (hfirst k hk)
        rcases hk.lt_or_eq with hk | rfl
        · have : (BitVec.ofNat 32 (k₀ : ℕ)).slt (BitVec.ofNat 32 (k : ℕ)) = true := by
            rw [slt_ofNat _ _ (by omega) (by omega)]; exact decide_eq_true hk
          simp only [he, this, lt_irrefl, if_false, and_self, or_true, if_true]
        · simp only [lt_irrefl, if_false, ite_self]
  · intro a ha
    rw [step_eq]
    rcases ha with rfl | ⟨k, rfl⟩
    · have h1 : ¬ ((⊤ : EReal) < u k₀) := not_top_lt
      have h2 : ¬ ((⊤ : EReal) = u k₀) := fun h => htop.ne h.symm
      simp only [h1, h2, false_and, or_self, if_false]
    · have h1 : ¬ (u k < u k₀) := not_lt.2 (hmin k)
      by_cases he : u k = u k₀
      · have hk : ¬ k < k₀ := fun hk => (hfirst k hk).ne he.symm
        have h3 : ¬ ((BitVec.ofNat 32 (k : ℕ)).slt (BitVec.ofNat 32 (k₀ : ℕ)) = true) := by
          rw [slt_ofNat _ _ (by omega) (by omega)]; simpa using hk
        rw [if_neg h1, if_neg (not_or.2 ⟨h1, fun h => h3 h.2⟩)]
      · rw [if_neg h1, if_neg (not_or.2 ⟨h1, fun h => he h.1⟩)]

/-- The index of an arg-min over any shapes: where the pairs it runs over are a row's values with their words, and the row's
    place `k₀` is below `⊤` and the first of the least, that place's word. -/
theorem argReduce_snd {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx)
    (r : Fin 1024 → EReal) (k₀ : Fin 1024) (htop : r k₀ < ⊤) (hmin : ∀ k, r k₀ ≤ r k) (hfirst : ∀ k, k < k₀ → r k₀ < r k)
    (hix : ∀ a, ix a = (⊤ : EReal)) (hiy : ∀ a, iy a = 0#32)
    (hL : ∀ p, p ∈ Host.argReduceFiber x y h j ↔ ∃ k : Fin 1024, p = (r k, BitVec.ofNat 32 k)) (G : t.Idx → BitVec 32)
    (hG : G = fun j => (Host.argReduce (reducer_argmin_f32_i32 (F := Ideal)) x y ix iy h hu j).2) :
    G j = BitVec.ofNat 32 k₀ := by
  subst hG
  show (Host.argReduce (reducer_argmin_f32_i32 (F := Ideal)) x y ix iy h hu j).2 = BitVec.ofNat 32 k₀
  rw [Ideal.argReduce_eq_reduce2, Host.reduce2_eq_foldl_fiber, hix, hiy]
  exact congrArg Prod.snd (fold_min r k₀ htop hmin hfirst _ hL)

/-- The stage that finds the nearest code, as the arg-min it runs. -/
theorem argmin_eq (v : BufTy.Contents (Elt Ideal) ⟨S16x512x1024, .f32⟩) :
    f_argmin (F := Ideal) v = fun j => (Host.argReduce (reducer_argmin_f32_i32 (F := Ideal)) v (iotaInDim S16x512x1024 32 2)
      (constant (F := Ideal) S_ .f32 0x7F800000#32) (constantI S_ 32 0#32) reducesTo_S16x512x1024_S16x512_d2 h_S_ j).2 := rfl

/-- The nearest code at an index: where row `k₀` is below `⊤` and is the first of the least, its word. -/
theorem argmin_at (v : BufTy.Contents (Elt Ideal) ⟨S16x512x1024, .f32⟩) (i : Fin 16) (t : Fin 512) (k₀ : Fin 1024)
    (r : Fin 1024 → EReal) (hr : ∀ k, v (ix3 i t k) = r k)
    (htop : r k₀ < ⊤) (hmin : ∀ k, r k₀ ≤ r k) (hfirst : ∀ k, k < k₀ → r k₀ < r k) :
    f_argmin (F := Ideal) v (ix2 i t) = BitVec.ofNat 32 k₀ := by
  have htopb : Ideal.ofBits FTy.f32 0x7F800000#32 = ⊤ := by simp [Ideal.ofBits, Ideal.ieee]
  refine argReduce_snd v (iotaInDim S16x512x1024 32 2) _ _ reducesTo_S16x512x1024_S16x512_d2 h_S_ (ix2 i t) r k₀ htop hmin
    hfirst (fun _ => htopb) (fun _ => rfl) (fun p => ?_) (f_argmin (F := Ideal) v) (argmin_eq v)
  refine (mem_fiber v _ i t p).trans ?_
  exact exists_congr fun k => by rw [hr k]; exact Iff.rfl

/-- The placing of the tokens at an index. -/
theorem toks_at (len : BufTy.Contents (Elt Ideal) ⟨S16, .i32⟩) (tok : BufTy.Contents (Elt Ideal) ⟨S16x512, .i32⟩) (i : Fin 16)
    (j : Fin 514) :
    f_toks (F := Ideal) len tok (ix2 i j) = place (len (ix1 i)) (fun t => tok (ix2 i t)) j := by
  pointwise [f_toks]
  unfold place
  by_cases h0 : (j : ℕ) < 1
  · rw [dif_pos h0, if_pos h0]
  · rw [dif_neg h0, if_neg h0]
    exact (select_eq ..).trans (by rw [select_sgt]; rfl)

/-- The floor division of the lengths at an index. -/
theorem fdiv_at (w : BufTy.Contents (Elt Ideal) ⟨S16, .i32⟩) (i : Fin 16) :
    f_fdiv (F := Ideal) w (ix1 i) = quarter (w (ix1 i)) := by
  rw [← quarter_host]
  pointwise [f_fdiv]
  rfl

/-- The lengths at an index. -/
theorem lens_at (w : BufTy.Contents (Elt Ideal) ⟨S16, .i32⟩) (i : Fin 16) :
    f_lens (F := Ideal) w (ix1 i) = w (ix1 i) + 1#32 + 1#32 := by
  pointwise [f_lens]
  rfl

end Cert.ReferenceIdeal.Stage

end
-- ==== Proof.KernPay.lean ====
/-
  The kernel's values read at an index, one lemma for each quantity the body computes from what it has loaded: the first
  layer, the second layer's code vectors, the scores, the tokens.
-/
module

public import proofs.«01_k».proof.Proof.Gen.KernelIdeal.Skeleton
public import proofs.«01_k».proof.Proof.Words
public import Idealize.ShloMosaic.Lib.Pointwise
public import Idealize.ShloMosaic.PureOps.Ideal.Laws

@[expose] public section

set_option maxRecDepth 16384

noncomputable section

namespace Cert.KernelIdeal.Val

open Cert.KernelIdeal Cert.KernelIdeal.Gen Idealize.ShloMosaic Idealize.ShloMosaic.TcCoe Cert.Spec

/-- The place `x` of the first of the four products: the odd row before, and a zero row at the start. -/
theorem before_eq {n T : ℕ} (u : Fin T → EReal) (O : Fin n → EReal) (hO : ∀ t : Fin n, O t = padded u (2 + 2 * t)) (t : Fin n)
    (h : ¬ (t : ℕ) < 1 → (t : ℕ) - 1 < n) :
    (if h' : (t : ℕ) < 1 then (0 : EReal) else O ⟨(t : ℕ) - 1, h h'⟩) = padded u (2 * t) := by
  by_cases h' : (t : ℕ) < 1
  · rw [dif_pos h', show 2 * (t : ℕ) = 0 by omega, padded_zero]
  · rw [dif_neg h', hO]
    exact congrArg (padded u) (by show 2 + 2 * ((t : ℕ) - 1) = 2 * t; omega)

/-- The place `x` of the last of the four products: the even row after, and a zero row at the end. -/
theorem after_eq {n T m : ℕ} (u : Fin T → EReal) (E : Fin n → EReal) (hE : ∀ t : Fin n, E t = padded u (1 + 2 * t)) (t : Fin n)
    (hm : m + 1 = n) (hT : T < 3 + 2 * m) (h : (t : ℕ) < m → 1 + (t : ℕ) < n) :
    (if h' : (t : ℕ) < m then E ⟨1 + (t : ℕ), h h'⟩ else (0 : EReal)) = padded u (3 + 2 * t) := by
  by_cases h' : (t : ℕ) < m
  · rw [dif_pos h', hE]
    exact congrArg (padded u) (by show 1 + 2 * (1 + (t : ℕ)) = 3 + 2 * t; omega)
  · rw [dif_neg h', padded_end u _ (by omega)]

/-- The first convolution, with a bias. -/
theorem conv1_at (E O : Vec Ideal S1024x128 .f32) (W0 W1 W2 W3 : Vec Ideal S1x128x512 .f32)
    (u : Fin 128 → Fin 2048 → EReal) (w : Fin 512 → Fin 128 → Fin 4 → EReal)
    (hE : ∀ (t : Fin 1024) (c : Fin 128), E (ix2 t c) = padded (u c) (1 + 2 * t))
    (hO : ∀ (t : Fin 1024) (c : Fin 128), O (ix2 t c) = padded (u c) (2 + 2 * t))
    (h0 : ∀ (c : Fin 128) (o : Fin 512), W0 (ix3 0 c o) = w o c 0) (h1 : ∀ (c : Fin 128) (o : Fin 512), W1 (ix3 0 c o) = w o c 1)
    (h2 : ∀ (c : Fin 128) (o : Fin 512), W2 (ix3 0 c o) = w o c 2) (h3 : ∀ (c : Fin 128) (o : Fin 512), W3 (ix3 0 c o) = w o c 3)
    (b : EReal) (t : Fin 1024) (o : Fin 512) :
    k0_pay4 (F := Ideal) E O W0 W1 W2 W3 (ix2 t o) + b = conv (w o) u b t := by
  pointwise [k0_pay4]
  unfold conv
  simp only [h0, h1, h2, h3]
  refine congrArg₂ (· + ·) (congrArg₂ (· + ·) (congrArg₂ (· + ·) (congrArg₂ (· + ·) (Finset.sum_congr rfl fun c _ => ?_)
    (Finset.sum_congr rfl fun c _ => ?_)) (Finset.sum_congr rfl fun c _ => ?_)) (Finset.sum_congr rfl fun c _ => ?_)) rfl
  · rw [mul_comm (w o c 0)]
    exact congrArg (· * w o c 0) (before_eq (u c) (fun t => O (ix2 t c)) (fun t => hO t c) t _)
  · rw [hE, mul_comm]
  · rw [hO, mul_comm]
  · rw [mul_comm (w o c 3)]
    exact congrArg (· * w o c 3) (after_eq (u c) (fun t => E (ix2 t c)) (fun t => hE t c) t (by norm_num) (by norm_num) _)

/-- The bias and the gelu of the first layer. -/
theorem gelu1_at (v : FVec Ideal S1024x512 .f32) (b : Vec Ideal S1x512 .f32) (t : Fin 1024) (o : Fin 512) :
    k0_pay6 (F := Ideal) v (k0_pay5 b) (ix2 t o) = gelu (v (ix2 t o) + b (ix2 0 o)) := by
  pointwise [k0_pay6, k0_pay5, gelu]
  simp only [mul_assoc]

/-- Four blocks of 128 columns side by side, read at a column. -/
theorem blocks_eq (v0 v1 v2 v3 : Fin 128 → EReal) (g : Fin 512 → EReal)
    (h0 : ∀ c : Fin 128, v0 c = g ⟨c, by omega⟩) (h1 : ∀ c : Fin 128, v1 c = g ⟨128 + c, by omega⟩)
    (h2 : ∀ c : Fin 128, v2 c = g ⟨256 + c, by omega⟩) (h3 : ∀ c : Fin 128, v3 c = g ⟨384 + c, by omega⟩) (x : Fin 512)
    (p0 : (x : ℕ) < 128 → (x : ℕ) < 128) (p1 : (x : ℕ) - 128 < 128 → (x : ℕ) - 128 < 128)
    (p2 : (x : ℕ) - 128 - 128 < 128 → (x : ℕ) - 128 - 128 < 128)
    (p3 : ¬ (x : ℕ) < 128 → ¬ (x : ℕ) - 128 < 128 → ¬ (x : ℕ) - 128 - 128 < 128 → (x : ℕ) - 128 - 128 - 128 < 128) :
    (if h : (x : ℕ) < 128 then v0 ⟨x, p0 h⟩ else if h' : (x : ℕ) - 128 < 128 then v1 ⟨x - 128, p1 h'⟩
      else if h'' : (x : ℕ) - 128 - 128 < 128 then v2 ⟨x - 128 - 128, p2 h''⟩ else v3 ⟨x - 128 - 128 - 128, p3 h h' h''⟩) = g x := by
  by_cases a : (x : ℕ) < 128
  · rw [dif_pos a, h0]
  · rw [dif_neg a]
    by_cases b : (x : ℕ) - 128 < 128
    · rw [dif_pos b, h1]; exact congrArg g (Fin.ext (by show 128 + ((x : ℕ) - 128) = x; omega))
    · rw [dif_neg b]
      by_cases d : (x : ℕ) - 128 - 128 < 128
      · rw [dif_pos d, h2]; exact congrArg g (Fin.ext (by show 256 + ((x : ℕ) - 128 - 128) = x; omega))
      · rw [dif_neg d, h3]; exact congrArg g (Fin.ext (by show 384 + ((x : ℕ) - 128 - 128 - 128) = x; omega))

/-- The even rows of the hidden features, gathered from four blocks. -/
theorem even_at (v0 v1 v2 v3 : Vec Ideal S1x512x128 .f32) (g : Fin 512 → Fin 512 → EReal)
    (h0 : ∀ (t : Fin 512) (c : Fin 128), v0 (ix3 0 t c) = g t ⟨c, by omega⟩)
    (h1 : ∀ (t : Fin 512) (c : Fin 128), v1 (ix3 0 t c) = g t ⟨128 + c, by omega⟩)
    (h2 : ∀ (t : Fin 512) (c : Fin 128), v2 (ix3 0 t c) = g t ⟨256 + c, by omega⟩)
    (h3 : ∀ (t : Fin 512) (c : Fin 128), v3 (ix3 0 t c) = g t ⟨384 + c, by omega⟩) (t c : Fin 512) :
    k0_pay12 (F := Ideal) (k0_pay11 v0) v1 v2 v3 (ix2 t c) = g t c := by
  pointwise [k0_pay12, k0_pay11]
  exact blocks_eq (fun c => v0 (ix3 0 t c)) (fun c => v1 (ix3 0 t c)) (fun c => v2 (ix3 0 t c)) (fun c => v3 (ix3 0 t c))
    (g t) (h0 t) (h1 t) (h2 t) (h3 t) c _ _ _ _

/-- The odd rows of the hidden features, gathered from four blocks. -/
theorem odd_at (v0 v1 v2 v3 : Vec Ideal S1x512x128 .f32) (g : Fin 512 → Fin 512 → EReal)
    (h0 : ∀ (t : Fin 512) (c : Fin 128), v0 (ix3 0 t c) = g t ⟨c, by omega⟩)
    (h1 : ∀ (t : Fin 512) (c : Fin 128), v1 (ix3 0 t c) = g t ⟨128 + c, by omega⟩)
    (h2 : ∀ (t : Fin 512) (c : Fin 128), v2 (ix3 0 t c) = g t ⟨256 + c, by omega⟩)
    (h3 : ∀ (t : Fin 512) (c : Fin 128), v3 (ix3 0 t c) = g t ⟨384 + c, by omega⟩) (t c : Fin 512) :
    k0_pay13 (F := Ideal) v0 v1 v2 v3 (ix2 t c) = g t c := by
  pointwise [k0_pay13]
  exact blocks_eq (fun c => v0 (ix3 0 t c)) (fun c => v1 (ix3 0 t c)) (fun c => v2 (ix3 0 t c)) (fun c => v3 (ix3 0 t c))
    (g t) (h0 t) (h1 t) (h2 t) (h3 t) c _ _ _ _

/-- The code vectors: the second convolution over the hidden features' even and odd rows, its gelu, the projection. -/
theorem codes_at (v61 v63 v65 v67 v70 v72 v74 v76 : Vec Ideal S1x512x128 .f32) (W0 W1 W2 W3 : Vec Ideal S1x512x512 .f32)
    (b : Vec Ideal S1x512 .f32) (P : Vec Ideal S512x64 .f32) (q : Vec Ideal S1x64 .f32)
    (u : Fin 512 → Fin 1024 → EReal) (w : Fin 512 → Fin 512 → Fin 4 → EReal)
    (hE : ∀ t c : Fin 512, k0_pay12 (F := Ideal) (k0_pay11 v61) v63 v65 v67 (ix2 t c) = padded (u c) (1 + 2 * t))
    (hO : ∀ t c : Fin 512, k0_pay13 (F := Ideal) v70 v72 v74 v76 (ix2 t c) = padded (u c) (2 + 2 * t))
    (h0 : ∀ c o : Fin 512, W0 (ix3 0 c o) = w o c 0) (h1 : ∀ c o : Fin 512, W1 (ix3 0 c o) = w o c 1)
    (h2 : ∀ c o : Fin 512, W2 (ix3 0 c o) = w o c 2) (h3 : ∀ c o : Fin 512, W3 (ix3 0 c o) = w o c 3)
    (t : Fin 512) (d : Fin 64) :
    k0_pay18 (F := Ideal) (k0_pay13 v70 v72 v74 v76) (k0_pay15 (k0_pay11 v61) v63 v65 v67)
        (k0_pay16 (k0_pay11 v61) v63 v65 v67 v70 v72 v74 v76 W0 W1) (k0_pay17 W2) (constant S512x512 .f32 0x00000000#32)
        W3 b P q (ix2 t (d.castSucc : Fin 65))
      = code (fun o => layer (w o) u (b (ix2 0 o)) t) (fun o => P (ix2 o d)) (q (ix2 0 d)) := by
  have e : ∀ o : Fin 512, k0_pay16 (F := Ideal) (k0_pay11 v61) v63 v65 v67 v70 v72 v74 v76 W0 W1 (ix2 t o)
        + ∑ c, k0_pay13 (F := Ideal) v70 v72 v74 v76 (ix2 t c) * k0_pay17 (F := Ideal) W2 (ix2 c o)
        + ∑ c, k0_pay15 (F := Ideal) (k0_pay11 v61) v63 v65 v67 (ix2 t c) * W3 (ix3 0 c o) + b (ix2 0 o)
      = conv (w o) u (b (ix2 0 o)) t := by
    intro o
    pointwise [k0_pay16, k0_pay14, k0_pay15, k0_pay17]
    unfold conv
    simp only [h0, h1, h2, h3]
    refine congrArg₂ (· + ·) (congrArg₂ (· + ·) (congrArg₂ (· + ·) (congrArg₂ (· + ·) (Finset.sum_congr rfl fun c _ => ?_)
      (Finset.sum_congr rfl fun c _ => ?_)) (Finset.sum_congr rfl fun c _ => ?_)) (Finset.sum_congr rfl fun c _ => ?_)) rfl
    · rw [mul_comm (w o c 0)]
      exact congrArg (· * w o c 0) (before_eq (u c) (fun t => k0_pay13 (F := Ideal) v70 v72 v74 v76 (ix2 t c)) (fun t => hO t c) t _)
    · rw [hE, mul_comm]
    · rw [hO, mul_comm]
    · rw [mul_comm (w o c 3)]
      exact congrArg (· * w o c 3) (after_eq (u c) (fun t => k0_pay12 (F := Ideal) (k0_pay11 v61) v63 v65 v67 (ix2 t c))
        (fun t => hE t c) t (by norm_num) (by norm_num) _)
  have hd : ((d.castSucc : Fin 65) : ℕ) < 64 := d.isLt
  pointwise [k0_pay18]
  rw [dif_pos hd]
  unfold code layer gelu
  simp only [e, mul_assoc]
  rfl

/-- The last column of the extended code vectors is one. -/
theorem one_at (v78 v83 v90 v92 : FVec Ideal S512x512 .f32) (W3 : Vec Ideal S1x512x512 .f32) (b : Vec Ideal S1x512 .f32)
    (P : Vec Ideal S512x64 .f32) (q : Vec Ideal S1x64 .f32) (t : Fin 512) (e : Fin 65) (he : ¬ (e : ℕ) < 64) :
    k0_pay18 (F := Ideal) v78 v83 v90 v92 (constant S512x512 .f32 0x00000000#32) W3 b P q (ix2 t e) = 1 := by
  pointwise [k0_pay18]
  rw [dif_neg he]

/-- The product of the extended code vectors with the extended rows is the score. -/
theorem score_at (Z : FVec Ideal S512x65 .f32) (B : Vec Ideal S64x1024 .f32) (z : Fin 512 → Fin 64 → EReal) (r : Fin 1024 → Fin 64 → EReal)
    (hz : ∀ (t : Fin 512) (d : Fin 64), Z (ix2 t (d.castSucc : Fin 65)) = z t d) (h1 : ∀ t : Fin 512, Z (ix2 t (Fin.last 64)) = 1)
    (hr : ∀ (d : Fin 64) (k : Fin 1024), B (ix2 d k) = r k d) (t : Fin 512) (k : Fin 1024) :
    ∑ e, Z (ix2 t e) * k0_pay19 (F := Ideal) B (ix2 e k) = score (z t) (r k) := by
  rw [Fin.sum_univ_castSucc]
  have a : ∀ d : Fin 64, k0_pay19 (F := Ideal) B (ix2 (d.castSucc : Fin 65) k) = r k d := by
    intro d
    have hd : ((d.castSucc : Fin 65) : ℕ) < 64 := d.isLt
    pointwise [k0_pay19]
    rw [dif_pos hd]
    exact hr d k
  have l : ∀ e : Fin 65, ¬ (e : ℕ) < 64 →
      k0_pay19 (F := Ideal) B (ix2 e k) = Ideal.ofBits FTy.f32 0xBF000000#32 * ∑ d, r k d * r k d := by
    intro e he
    pointwise [k0_pay19]
    rw [dif_neg he]
    simp only [hr]
  rw [h1, l _ (by simp), one_mul]
  simp only [a, hz]
  rfl

/-- The tokens: the first place of the greatest score, set after the start word and cut off by the length's words. -/
theorem tokens_at (Z : FVec Ideal S512x65 .f32) (B : FVec Ideal S65x1024 .f32) (l : Vec Ideal S1x1 .i32) (s : Fin 512 → Fin 1024 → EReal)
    (hs : ∀ (t : Fin 512) (k : Fin 1024), ∑ e, Z (ix2 t e) * B (ix2 e k) = s t k) (k₀ : Fin 512 → Fin 1024)
    (hmax : ∀ t k, s t k ≤ s t (k₀ t)) (hfirst : ∀ t k, k < k₀ t → s t k < s t (k₀ t)) (j : Fin 514) :
    k0_pay1 (iota .tc S514x1 32 [0] iota_S514x1_d0_w32) (k0_pay20 (F := Ideal) Z B (constant S512x1024 .f32 0x00000000#32) l) (ix3 0 j 0)
      = place (quarter (l (ix2 0 0))) (fun t => BitVec.ofNat 32 (k₀ t)) j := by
  have hb : Ideal.ofBits FTy.f32 0xFF800000#32 = ⊥ := by simp [Ideal.ofBits, Ideal.ieee]
  have tok : ∀ t : Fin 512, Finset.fold IntOp.minsi (2147483647#32)
      (fun k : Fin 1024 => if s t k = Finset.fold max (⊥ : EReal) (fun k => s t k) Finset.univ then BitVec.ofNat 32 k else 1024#32)
      Finset.univ = BitVec.ofNat 32 (k₀ t) := by
    intro t
    refine fold_first (s t) (k₀ t) (hfirst t) _ fun k => ?_
    show (if s t k = Finset.fold max (⊥ : EReal) (fun k => s t k) Finset.univ then _ else _) = _
    rw [fold_max (fun k => s t k) (k₀ t) (hmax t)]
  pointwise [k0_pay1, k0_pay20]
  simp only [hs, hb]
  rw [quarter_kernel]
  generalize quarter (l (ix2 0 0)) = q
  refine (select_eq ..).trans ?_
  unfold place
  by_cases h0 : (j : ℕ) < 1
  · have hz : BitVec.ofNat 32 (j : ℕ) = 0#32 := by rw [show (j : ℕ) = 0 by omega]
    rw [if_pos hz, if_pos h0]
  · have hz : ¬ BitVec.ofNat 32 (j : ℕ) = 0#32 := by
      intro h
      have := congrArg BitVec.toNat h
      rw [BitVec.toNat_ofNat] at this
      have hj := j.isLt
      simp only [BitVec.toNat_ofNat] at this
      omega
    have hs1 : IntOp.subi (BitVec.ofNat 32 (j : ℕ)) 1#32 = BitVec.ofNat 32 ((j : ℕ) - 1) := by
      unfold IntOp.subi
      apply BitVec.eq_of_toNat_eq
      have hj := j.isLt
      simp only [BitVec.toNat_sub, BitVec.toNat_ofNat]
      omega
    rw [if_neg hz, if_neg h0, hs1]
    refine (select_eq ..).trans ?_
    refine if_congr Iff.rfl rfl ?_
    refine (select_sgt ..).trans ?_
    refine if_congr Iff.rfl rfl ?_
    rw [dif_neg h0]
    by_cases h1 : (j : ℕ) - 1 < 512
    · rw [dif_pos h1, dif_pos h1]
      exact tok ⟨(j : ℕ) - 1, h1⟩
    · rw [dif_neg h1, dif_neg h1]

/-- The length result: the quarter of the length and two. -/
theorem length_at (w : BitVec 32) : k0_pay2 w (ix3 0 0 0) = w + 2#32 := by
  pointwise [k0_pay2]
  rfl

end Cert.KernelIdeal.Val

end
-- ==== Proof.KernOut.lean ====
/-
  What the body leaves in its two outputs, read at an index, from what its inputs hold: the loads of the inputs and of the
  two scratch arrays, then the quantities of KernPay.lean one after the other.
-/
module

public import proofs.«01_k».proof.Proof.Gen.KernelIdeal.Frame
public import proofs.«01_k».proof.Proof.KernPay
public import Idealize.ShloMosaic.Lib.Pipeline.Value
public import Idealize.ShloMosaic.Lib.WholeRead

@[expose] public section

set_option maxRecDepth 16384

noncomputable section

namespace Cert.KernelIdeal.Val

open Cert.KernelIdeal Cert.KernelIdeal.Gen Idealize.ShloMosaic Idealize.ShloMosaic.TcCoe Idealize.SL.Sem Cert.Spec

/-- The newest write, read at an index under it. -/
theorem canon_at {S : Shape} {e : EltTy} (r : Rect S) (w : r.shape.Idx → Elt Ideal e) (L : List (View.Piece (Elt Ideal) S e))
    (x : r.shape.Idx) (y : S.Idx) (h : ∀ a, (y a : ℕ) = r.off a + r.stride a * (x a : ℕ)) : View.canon (⟨r, w⟩ :: L) y = w x := by
  have e : y = r.emb x := funext fun a => Fin.ext (h a)
  rw [e]; exact View.canon_cons_emb r w L x

/-- A load from a whole buffer of known contents, read at an index. -/
theorem load_at {κ : Kind} {sp : Space} {s : Shape} {e : EltTy} (a : Memref sig κ sp s e) (h : a.IsWhole) (X : Vec Ideal s e)
    (B : LoadRect s) (x : B.shape.Idx) (y : s.Idx) (hy : ∀ k, (y k : ℕ) = B.off k + B.stride k * (x k : ℕ)) :
    View.readAt (Elt Ideal) a.view B (h.unread X) x = X y := by
  rw [h.readAt_unread]
  exact congrArg X (funext fun k => Fin.ext (hy k).symm)

section Body

variable (c : Dev nD) (i : grid0.Coords)
  (arg1 : Memref sig .tc .vmem S1x128x2048 .f32) (harg1 : arg1.IsWhole) (arg2 : Memref sig .tc .vmem S4x128x512 .f32) (harg2 : arg2.IsWhole)
  (arg3 : Memref sig .tc .vmem S1x512 .f32) (harg3 : arg3.IsWhole) (arg4 : Memref sig .tc .vmem S4x512x512 .f32) (harg4 : arg4.IsWhole)
  (arg5 : Memref sig .tc .vmem S1x512 .f32) (harg5 : arg5.IsWhole) (arg6 : Memref sig .tc .vmem S512x64 .f32) (harg6 : arg6.IsWhole)
  (arg7 : Memref sig .tc .vmem S1x64 .f32) (harg7 : arg7.IsWhole) (arg8 : Memref sig .tc .vmem S64x1024 .f32) (harg8 : arg8.IsWhole)
  (arg9 : Memref sig .tc .vmem S16x1 .i32) (harg9 : arg9.IsWhole) (arg10 : Memref sig .tc .vmem S1x514x1 .i32) (harg10 : arg10.IsWhole)
  (arg11 : Memref sig .tc .vmem S1x1x1 .i32) (harg11 : arg11.IsWhole) (arg12 : Memref sig .tc .vmem S2048x128 .f32) (harg12 : arg12.IsWhole)
  (arg13 : Memref sig .tc .vmem S4x1024x128 .f32) (harg13 : arg13.IsWhole)
  (x0 : Vec Ideal S1x128x2048 .f32) (x1 : Vec Ideal S4x128x512 .f32) (x2 : Vec Ideal S1x512 .f32) (x3 : Vec Ideal S4x512x512 .f32)
  (x4 : Vec Ideal S1x512 .f32) (x5 : Vec Ideal S512x64 .f32) (x6 : Vec Ideal S1x64 .f32) (x7 : Vec Ideal S64x1024 .f32) (x8 : Vec Ideal S16x1 .i32)

/-- The transposed input in scratch, at an index. -/
theorem scratch0_at (s : Fin 2048) (ch : Fin 128) :
    View.canon (kernelRun0_A.sl.HS0_1 (F := Ideal) c arg1 harg1 x0) (ix2 s ch) = x0 (ix3 0 ch s) := by
  unfold kernelRun0_A.sl.HS0_1
  refine (canon_at _ _ _ (ix2 s ch) _ (fun a => by fin_cases a <;> simp [ix2])).trans ?_
  have e : k0_pay3 (F := Ideal) (View.readAt (Elt Ideal) arg1.view
      (Rect.unit (s := S1x128x2048) ![0, 0, 0] S1x128x2048.size inb_S1x128x2048_S1x128x2048_0_0_0).toLoadRect (harg1.unread x0)) (ix2 s ch)
    = View.readAt (Elt Ideal) arg1.view
      (Rect.unit (s := S1x128x2048) ![0, 0, 0] S1x128x2048.size inb_S1x128x2048_S1x128x2048_0_0_0).toLoadRect (harg1.unread x0) (ix3 0 ch s) := by
    pointwise [k0_pay3]
  refine e.trans (load_at arg1 harg1 x0 _ _ _ fun a => ?_)
  fin_cases a <;> simp [ix3]

/-- The even rows of the input, at an index. -/
theorem v6_at (t : Fin 1024) (ch : Fin 128) :
    kernelRun0_A.sl.v6 (F := Ideal) c arg1 harg1 arg12 x0 (ix2 t ch) = x0 (ix3 0 ch ⟨2 * t, by omega⟩) := by
  unfold kernelRun0_A.sl.v6
  rw [View.readCov_eq_canon']
  refine (congrArg _ (funext fun a => Fin.ext ?_)).trans (scratch0_at c arg1 harg1 x0 _ ch)
  fin_cases a <;> simp [ix2]

/-- The odd rows of the input, at an index. -/
theorem v7_at (t : Fin 1024) (ch : Fin 128) :
    kernelRun0_A.sl.v7 (F := Ideal) c arg1 harg1 arg12 x0 (ix2 t ch) = x0 (ix3 0 ch ⟨1 + 2 * t, by omega⟩) := by
  unfold kernelRun0_A.sl.v7
  rw [View.readCov_eq_canon']
  refine (congrArg _ (funext fun a => Fin.ext ?_)).trans (scratch0_at c arg1 harg1 x0 _ ch)
  fin_cases a <;> simp [ix2]

/-- The hidden features, at an index. -/
theorem hidden_at (x : Fin 128 → Fin 2048 → EReal) (w1 : Fin 512 → Fin 128 → Fin 4 → EReal) (b1 : Fin 512 → EReal)
    (hx : ∀ ch s, x0 (ix3 0 ch s) = x ch s) (hw : ∀ k ch o, x1 (ix3 k ch o) = w1 o ch k) (hb : ∀ o, x2 (ix2 0 o) = b1 o)
    (t : Fin 1024) (o : Fin 512) :
    k0_pay6 (F := Ideal) (kernelRun0_A.sl.r c arg1 harg1 arg2 harg2 arg12 x0 x1) (kernelRun0_A.sl.r_1 c arg3 harg3 x2) (ix2 t o)
      = layer (w1 o) x (b1 o) t := by
  unfold kernelRun0_A.sl.r_1
  rw [gelu1_at, load_at arg3 harg3 x2 _ _ (ix2 0 o) (fun a => by fin_cases a <;> simp [ix2]), hb]
  unfold layer kernelRun0_A.sl.r
  refine congrArg gelu (conv1_at _ _ _ _ _ _ x w1 (fun t ch => ?_) (fun t ch => ?_) (fun ch o => ?_) (fun ch o => ?_) (fun ch o => ?_)
    (fun ch o => ?_) (b1 o) t o)
  · rw [v6_at, hx, padded_in _ _ (by omega) (by omega)]
    exact congrArg (x ch) (Fin.ext (by show 2 * (t : ℕ) = 1 + 2 * t - 1; omega))
  · rw [v7_at, hx, padded_in _ _ (by omega) (by omega)]
    exact congrArg (x ch) (Fin.ext (by show 1 + 2 * (t : ℕ) = 2 + 2 * t - 1; omega))
  · exact (load_at arg2 harg2 x1 _ _ (ix3 0 ch o) (fun a => by fin_cases a <;> simp [ix3])).trans (hw 0 ch o)
  · exact (load_at arg2 harg2 x1 _ _ (ix3 1 ch o) (fun a => by fin_cases a <;> simp [ix3])).trans (hw 1 ch o)
  · exact (load_at arg2 harg2 x1 _ _ (ix3 2 ch o) (fun a => by fin_cases a <;> simp [ix3])).trans (hw 2 ch o)
  · exact (load_at arg2 harg2 x1 _ _ (ix3 3 ch o) (fun a => by fin_cases a <;> simp [ix3])).trans (hw 3 ch o)

/-- Column block `q` of an array of hidden features, over all four, as an array on the scratch's shape. -/
def blocks (H : FVec Ideal S1024x512 .f32) : S4x1024x128.Idx → EReal :=
  fun y => H (ix2 (y 1) ⟨128 * (y 0 : ℕ) + (y 2 : ℕ), by have h0 : (y 0 : ℕ) < 4 := (y 0).2; have h2 : (y 2 : ℕ) < 128 := (y 2).2; omega⟩)

/-- The blocks at an index whose coordinates are known. -/
theorem blocks_at (H : FVec Ideal S1024x512 .f32) (y : S4x1024x128.Idx) (t : Fin 1024) (o : Fin 512) (ht : (y 1 : ℕ) = t)
    (ho : 128 * (y 0 : ℕ) + (y 2 : ℕ) = o) : blocks H y = H (ix2 t o) := by
  obtain rfl : y 1 = t := Fin.ext ht
  obtain ⟨o, lt⟩ := o
  obtain rfl : 128 * (y 0 : ℕ) + (y 2 : ℕ) = o := ho
  rfl

/-- The first column block of the hidden features. -/
theorem pay7_at (v : FVec Ideal S1024x512 .f32) (b : FVec Ideal S1x512 .f32) (t : Fin 1024) (ch : Fin 128) :
    k0_pay7 (F := Ideal) v b (ix3 0 t ch) = k0_pay6 v b (ix2 t ⟨ch, by omega⟩) := by
  pointwise [k0_pay7]

/-- The second column block of the hidden features. -/
theorem pay8_at (v : FVec Ideal S1024x512 .f32) (b : FVec Ideal S1x512 .f32) (t : Fin 1024) (ch : Fin 128) :
    k0_pay8 (F := Ideal) v b (ix3 0 t ch) = k0_pay6 v b (ix2 t ⟨128 + ch, by omega⟩) := by
  pointwise [k0_pay8]

/-- The third column block of the hidden features. -/
theorem pay9_at (v : FVec Ideal S1024x512 .f32) (b : FVec Ideal S1x512 .f32) (t : Fin 1024) (ch : Fin 128) :
    k0_pay9 (F := Ideal) v b (ix3 0 t ch) = k0_pay6 v b (ix2 t ⟨256 + ch, by omega⟩) := by
  pointwise [k0_pay9]

/-- The fourth column block of the hidden features. -/
theorem pay10_at (v : FVec Ideal S1024x512 .f32) (b : FVec Ideal S1x512 .f32) (t : Fin 1024) (ch : Fin 128) :
    k0_pay10 (F := Ideal) v b (ix3 0 t ch) = k0_pay6 v b (ix2 t ⟨384 + ch, by omega⟩) := by
  pointwise [k0_pay10]

/-- An index of a one-row block is its three coordinates. -/
theorem idx_row (x : S1x1024x128.Idx) : x = ix3 0 (x 1) (x 2) := by
  funext a
  fin_cases a
  · exact Subsingleton.elim (α := Fin 1) _ _
  · rfl
  · rfl

/-- The scratch of hidden features, at an index. -/
theorem scratch1_at (y : S4x1024x128.Idx) :
    View.canon (kernelRun0_A.sl.HS1_4 (F := Ideal) c arg1 harg1 arg2 harg2 arg3 harg3 arg12 x0 x1 x2) y
      = blocks (k0_pay6 (F := Ideal) (kernelRun0_A.sl.r c arg1 harg1 arg2 harg2 arg12 x0 x1) (kernelRun0_A.sl.r_1 c arg3 harg3 x2)) y := by
  unfold kernelRun0_A.sl.HS1_4
  refine View.canon_apply_of_pieces _ _ (fun p hp x => ?_) y ?_
  · simp only [List.mem_cons, List.mem_nil_iff, or_false] at hp
    rcases hp with rfl | rfl | rfl | rfl
    · dsimp only at x ⊢
      have e : x = ix3 0 (x 1) (x 2) := idx_row x
      rw [e]
      refine (pay10_at _ _ _ _).trans (congrArg _ (funext fun a => Fin.ext ?_))
      fin_cases a <;> simp [ix2, ix3]
    · dsimp only at x ⊢
      have e : x = ix3 0 (x 1) (x 2) := idx_row x
      rw [e]
      refine (pay9_at _ _ _ _).trans (congrArg _ (funext fun a => Fin.ext ?_))
      fin_cases a <;> simp [ix2, ix3]
    · dsimp only at x ⊢
      have e : x = ix3 0 (x 1) (x 2) := idx_row x
      rw [e]
      refine (pay8_at _ _ _ _).trans (congrArg _ (funext fun a => Fin.ext ?_))
      fin_cases a <;> simp [ix2, ix3]
    · dsimp only at x ⊢
      have e : x = ix3 0 (x 1) (x 2) := idx_row x
      rw [e]
      refine (pay7_at _ _ _ _).trans (congrArg _ (funext fun a => Fin.ext ?_))
      fin_cases a <;> simp [ix2, ix3]
  · have h0 : (y 0 : ℕ) < 4 := (y 0).2
    have h1 : (y 1 : ℕ) < 1024 := (y 1).2
    have h2 : (y 2 : ℕ) < 128 := (y 2).2
    have k : (y 0 : ℕ) = 3 ∨ (y 0 : ℕ) = 2 ∨ (y 0 : ℕ) = 1 ∨ (y 0 : ℕ) = 0 := by omega
    rcases k with k | k | k | k
    · refine ⟨_, List.mem_cons_self .., ?_⟩
      dsimp only
      rw [Rect.mem_set_unit]
      intro a
      fin_cases a <;> simp [k] <;> omega
    · refine ⟨_, List.mem_cons_of_mem _ (List.mem_cons_self ..), ?_⟩
      dsimp only
      rw [Rect.mem_set_unit]
      intro a
      fin_cases a <;> simp [k] <;> omega
    · refine ⟨_, List.mem_cons_of_mem _ (List.mem_cons_of_mem _ (List.mem_cons_self ..)), ?_⟩
      dsimp only
      rw [Rect.mem_set_unit]
      intro a
      fin_cases a <;> simp [k] <;> omega
    · refine ⟨_, List.mem_cons_of_mem _ (List.mem_cons_of_mem _ (List.mem_cons_of_mem _ (List.mem_cons_self ..))), ?_⟩
      dsimp only
      rw [Rect.mem_set_unit]
      intro a
      fin_cases a <;> simp [k] <;> omega

/-- Even rows of column block 0 of the hidden features. -/
theorem v61_at (g : Fin 1024 → Fin 512 → EReal)
    (hg : ∀ t o, k0_pay6 (F := Ideal) (kernelRun0_A.sl.r c arg1 harg1 arg2 harg2 arg12 x0 x1) (kernelRun0_A.sl.r_1 c arg3 harg3 x2) (ix2 t o) = g t o)
    (t : Fin 512) (ch : Fin 128) :
    kernelRun0_A.sl.v61 (F := Ideal) c arg1 harg1 arg2 harg2 arg3 harg3 arg12 arg13 x0 x1 x2 (ix3 0 t ch)
      = g ⟨2 * t, by omega⟩ ⟨ch, by omega⟩ := by
  unfold kernelRun0_A.sl.v61
  rw [View.readCov_eq_canon']
  dsimp only
  rw [scratch1_at]
  refine (blocks_at _ _ _ _ ?_ ?_).trans (hg _ _) <;> simp [ix3]

/-- Even rows of column block 1 of the hidden features. -/
theorem v63_at (g : Fin 1024 → Fin 512 → EReal)
    (hg : ∀ t o, k0_pay6 (F := Ideal) (kernelRun0_A.sl.r c arg1 harg1 arg2 harg2 arg12 x0 x1) (kernelRun0_A.sl.r_1 c arg3 harg3 x2) (ix2 t o) = g t o)
    (t : Fin 512) (ch : Fin 128) :
    kernelRun0_A.sl.v63 (F := Ideal) c arg1 harg1 arg2 harg2 arg3 harg3 arg12 arg13 x0 x1 x2 (ix3 0 t ch)
      = g ⟨2 * t, by omega⟩ ⟨128 + ch, by omega⟩ := by
  unfold kernelRun0_A.sl.v63
  rw [View.readCov_eq_canon']
  dsimp only
  rw [scratch1_at]
  refine (blocks_at _ _ _ _ ?_ ?_).trans (hg _ _) <;> simp [ix3]

/-- Even rows of column block 2 of the hidden features. -/
theorem v65_at (g : Fin 1024 → Fin 512 → EReal)
    (hg : ∀ t o, k0_pay6 (F := Ideal) (kernelRun0_A.sl.r c arg1 harg1 arg2 harg2 arg12 x0 x1) (kernelRun0_A.sl.r_1 c arg3 harg3 x2) (ix2 t o) = g t o)
    (t : Fin 512) (ch : Fin 128) :
    kernelRun0_A.sl.v65 (F := Ideal) c arg1 harg1 arg2 harg2 arg3 harg3 arg12 arg13 x0 x1 x2 (ix3 0 t ch)
      = g ⟨2 * t, by omega⟩ ⟨256 + ch, by omega⟩ := by
  unfold kernelRun0_A.sl.v65
  rw [View.readCov_eq_canon']
  dsimp only
  rw [scratch1_at]
  refine (blocks_at _ _ _ _ ?_ ?_).trans (hg _ _) <;> simp [ix3]

/-- Even rows of column block 3 of the hidden features. -/
theorem v67_at (g : Fin 1024 → Fin 512 → EReal)
    (hg : ∀ t o, k0_pay6 (F := Ideal) (kernelRun0_A.sl.r c arg1 harg1 arg2 harg2 arg12 x0 x1) (kernelRun0_A.sl.r_1 c arg3 harg3 x2) (ix2 t o) = g t o)
    (t : Fin 512) (ch : Fin 128) :
    kernelRun0_A.sl.v67 (F := Ideal) c arg1 harg1 arg2 harg2 arg3 harg3 arg12 arg13 x0 x1 x2 (ix3 0 t ch)
      = g ⟨2 * t, by omega⟩ ⟨384 + ch, by omega⟩ := by
  unfold kernelRun0_A.sl.v67
  rw [View.readCov_eq_canon']
  dsimp only
  rw [scratch1_at]
  refine (blocks_at _ _ _ _ ?_ ?_).trans (hg _ _) <;> simp [ix3]

/-- Odd rows of column block 0 of the hidden features. -/
theorem v70_at (g : Fin 1024 → Fin 512 → EReal)
    (hg : ∀ t o, k0_pay6 (F := Ideal) (kernelRun0_A.sl.r c arg1 harg1 arg2 harg2 arg12 x0 x1) (kernelRun0_A.sl.r_1 c arg3 harg3 x2) (ix2 t o) = g t o)
    (t : Fin 512) (ch : Fin 128) :
    kernelRun0_A.sl.v70 (F := Ideal) c arg1 harg1 arg2 harg2 arg3 harg3 arg12 arg13 x0 x1 x2 (ix3 0 t ch)
      = g ⟨1 + 2 * t, by omega⟩ ⟨ch, by omega⟩ := by
  unfold kernelRun0_A.sl.v70
  rw [View.readCov_eq_canon']
  dsimp only
  rw [scratch1_at]
  refine (blocks_at _ _ _ _ ?_ ?_).trans (hg _ _) <;> simp [ix3]

/-- Odd rows of column block 1 of the hidden features. -/
theorem v72_at (g : Fin 1024 → Fin 512 → EReal)
    (hg : ∀ t o, k0_pay6 (F := Ideal) (kernelRun0_A.sl.r c arg1 harg1 arg2 harg2 arg12 x0 x1) (kernelRun0_A.sl.r_1 c arg3 harg3 x2) (ix2 t o) = g t o)
    (t : Fin 512) (ch : Fin 128) :
    kernelRun0_A.sl.v72 (F := Ideal) c arg1 harg1 arg2 harg2 arg3 harg3 arg12 arg13 x0 x1 x2 (ix3 0 t ch)
      = g ⟨1 + 2 * t, by omega⟩ ⟨128 + ch, by omega⟩ := by
  unfold kernelRun0_A.sl.v72
  rw [View.readCov_eq_canon']
  dsimp only
  rw [scratch1_at]
  refine (blocks_at _ _ _ _ ?_ ?_).trans (hg _ _) <;> simp [ix3]

/-- Odd rows of column block 2 of the hidden features. -/
theorem v74_at (g : Fin 1024 → Fin 512 → EReal)
    (hg : ∀ t o, k0_pay6 (F := Ideal) (kernelRun0_A.sl.r c arg1 harg1 arg2 harg2 arg12 x0 x1) (kernelRun0_A.sl.r_1 c arg3 harg3 x2) (ix2 t o) = g t o)
    (t : Fin 512) (ch : Fin 128) :
    kernelRun0_A.sl.v74 (F := Ideal) c arg1 harg1 arg2 harg2 arg3 harg3 arg12 arg13 x0 x1 x2 (ix3 0 t ch)
      = g ⟨1 + 2 * t, by omega⟩ ⟨256 + ch, by omega⟩ := by
  unfold kernelRun0_A.sl.v74
  rw [View.readCov_eq_canon']
  dsimp only
  rw [scratch1_at]
  refine (blocks_at _ _ _ _ ?_ ?_).trans (hg _ _) <;> simp [ix3]

/-- Odd rows of column block 3 of the hidden features. -/
theorem v76_at (g : Fin 1024 → Fin 512 → EReal)
    (hg : ∀ t o, k0_pay6 (F := Ideal) (kernelRun0_A.sl.r c arg1 harg1 arg2 harg2 arg12 x0 x1) (kernelRun0_A.sl.r_1 c arg3 harg3 x2) (ix2 t o) = g t o)
    (t : Fin 512) (ch : Fin 128) :
    kernelRun0_A.sl.v76 (F := Ideal) c arg1 harg1 arg2 harg2 arg3 harg3 arg12 arg13 x0 x1 x2 (ix3 0 t ch)
      = g ⟨1 + 2 * t, by omega⟩ ⟨384 + ch, by omega⟩ := by
  unfold kernelRun0_A.sl.v76
  rw [View.readCov_eq_canon']
  dsimp only
  rw [scratch1_at]
  refine (blocks_at _ _ _ _ ?_ ?_).trans (hg _ _) <;> simp [ix3]

/-- The body's code vectors, with their last column of ones. -/
theorem codes_row (x : Fin 128 → Fin 2048 → EReal) (w1 : Fin 512 → Fin 128 → Fin 4 → EReal) (b1 : Fin 512 → EReal)
    (w2 : Fin 512 → Fin 512 → Fin 4 → EReal) (b2 : Fin 512 → EReal) (wp : Fin 512 → Fin 64 → EReal) (bp : Fin 64 → EReal)
    (hx : ∀ ch s, x0 (ix3 0 ch s) = x ch s) (hw1 : ∀ k ch o, x1 (ix3 k ch o) = w1 o ch k) (hb1 : ∀ o, x2 (ix2 0 o) = b1 o)
    (hw2 : ∀ k ch o, x3 (ix3 k ch o) = w2 o ch k) (hb2 : ∀ o, x4 (ix2 0 o) = b2 o) (hwp : ∀ o d, x5 (ix2 o d) = wp o d)
    (hbp : ∀ d, x6 (ix2 0 d) = bp d) (t : Fin 512) (d : Fin 64) :
    kernelRun0_A.sl.r_7 (F := Ideal) c arg1 harg1 arg2 harg2 arg3 harg3 arg4 harg4 arg5 harg5 arg6 harg6 arg7 harg7 arg12 arg13
        x0 x1 x2 x3 x4 x5 x6 (ix2 t (d.castSucc : Fin 65))
      = codes x w1 b1 w2 b2 wp bp t d := by
  have hg : ∀ (t : Fin 1024) (o : Fin 512), k0_pay6 (F := Ideal) (kernelRun0_A.sl.r c arg1 harg1 arg2 harg2 arg12 x0 x1)
      (kernelRun0_A.sl.r_1 c arg3 harg3 x2) (ix2 t o) = (fun (t : Fin 1024) (o : Fin 512) => layer (w1 o) x (b1 o) t) t o :=
    hidden_at c arg1 harg1 arg2 harg2 arg3 harg3 arg12 x0 x1 x2 x w1 b1 hx hw1 hb1
  unfold kernelRun0_A.sl.r_7 kernelRun0_A.sl.r_3 kernelRun0_A.sl.r_4 kernelRun0_A.sl.r_5 kernelRun0_A.sl.r_6 kernelRun0_A.sl.r_2
  refine (codes_at _ _ _ _ _ _ _ _ _ _ _ _ _ _ _ (fun (o : Fin 512) (t : Fin 1024) => layer (w1 o) x (b1 o) t) w2
    (fun t ch => ?_) (fun t ch => ?_) (fun ch o => ?_) (fun ch o => ?_) (fun ch o => ?_) (fun ch o => ?_) t d).trans ?_
  · rw [padded_in _ _ (by omega) (by omega)]
    refine (even_at _ _ _ _ (fun (t : Fin 512) (o : Fin 512) => layer (w1 o) x (b1 o) (2 * (t : ℕ)))
      (v61_at c arg1 harg1 arg2 harg2 arg3 harg3 arg12 arg13 x0 x1 x2 _ hg) (v63_at c arg1 harg1 arg2 harg2 arg3 harg3 arg12 arg13 x0 x1 x2 _ hg)
      (v65_at c arg1 harg1 arg2 harg2 arg3 harg3 arg12 arg13 x0 x1 x2 _ hg) (v67_at c arg1 harg1 arg2 harg2 arg3 harg3 arg12 arg13 x0 x1 x2 _ hg)
      t ch).trans ?_
    exact congrArg (layer (w1 ch) x (b1 ch)) (by show 2 * (t : ℕ) = 1 + 2 * t - 1; omega)
  · rw [padded_in _ _ (by omega) (by omega)]
    refine (odd_at _ _ _ _ (fun (t : Fin 512) (o : Fin 512) => layer (w1 o) x (b1 o) (1 + 2 * (t : ℕ)))
      (v70_at c arg1 harg1 arg2 harg2 arg3 harg3 arg12 arg13 x0 x1 x2 _ hg) (v72_at c arg1 harg1 arg2 harg2 arg3 harg3 arg12 arg13 x0 x1 x2 _ hg)
      (v74_at c arg1 harg1 arg2 harg2 arg3 harg3 arg12 arg13 x0 x1 x2 _ hg) (v76_at c arg1 harg1 arg2 harg2 arg3 harg3 arg12 arg13 x0 x1 x2 _ hg)
      t ch).trans ?_
    exact congrArg (layer (w1 ch) x (b1 ch)) (by show 1 + 2 * (t : ℕ) = 2 + 2 * t - 1; omega)
  · exact (load_at arg4 harg4 x3 _ _ (ix3 0 ch o) (fun a => by fin_cases a <;> simp [ix3])).trans (hw2 0 ch o)
  · exact (load_at arg4 harg4 x3 _ _ (ix3 1 ch o) (fun a => by fin_cases a <;> simp [ix3])).trans (hw2 1 ch o)
  · exact (load_at arg4 harg4 x3 _ _ (ix3 2 ch o) (fun a => by fin_cases a <;> simp [ix3])).trans (hw2 2 ch o)
  · exact (load_at arg4 harg4 x3 _ _ (ix3 3 ch o) (fun a => by fin_cases a <;> simp [ix3])).trans (hw2 3 ch o)
  · have eb : ∀ o : Fin 512, View.readAt (Elt Ideal) arg5.view
        (Rect.unit (s := S1x512) ![0, 0] S1x512.size inb_S1x512_S1x512_0_0).toLoadRect (harg5.unread x4) (ix2 0 o) = b2 o := fun o =>
      (load_at arg5 harg5 x4 _ _ (ix2 0 o) (fun a => by fin_cases a <;> simp [ix2])).trans (hb2 o)
    have ew : ∀ o : Fin 512, View.readAt (Elt Ideal) arg6.view
        (Rect.unit (s := S512x64) ![0, 0] S512x64.size inb_S512x64_S512x64_0_0).toLoadRect (harg6.unread x5) (ix2 o d) = wp o d := fun o =>
      (load_at arg6 harg6 x5 _ _ (ix2 o d) (fun a => by fin_cases a <;> simp [ix2])).trans (hwp o d)
    have eq : View.readAt (Elt Ideal) arg7.view
        (Rect.unit (s := S1x64) ![0, 0] S1x64.size inb_S1x64_S1x64_0_0).toLoadRect (harg7.unread x6) (ix2 0 d) = bp d :=
      (load_at arg7 harg7 x6 _ _ (ix2 0 d) (fun a => by fin_cases a <;> simp [ix2])).trans (hbp d)
    unfold codes
    rw [eq, funext ew]
    exact congrArg (fun h => code h (fun o => wp o d) (bp d)) (funext fun o => by rw [eb])

/-- The last column of the code vectors is one. -/
theorem codes_one (t : Fin 512) :
    kernelRun0_A.sl.r_7 (F := Ideal) c arg1 harg1 arg2 harg2 arg3 harg3 arg4 harg4 arg5 harg5 arg6 harg6 arg7 harg7 arg12 arg13
        x0 x1 x2 x3 x4 x5 x6 (ix2 t (Fin.last 64 : Fin 65)) = 1 :=
  one_at _ _ _ _ _ _ _ _ t (Fin.last 64) (by simp)

/-- The quarter of the length word, as the body computes it. -/
theorem v160_eq : kernelRun0_A.sl.v160 (F := Ideal) c i arg9 harg9 x8 = quarter (x8 (ix2 (i 0) 0)) := by
  have e : View.readAt (Elt Ideal) arg9.view (Rect.unit (s := S16x1) (k0_off1 i) S1x1.size (k0_off1_inb i)).toLoadRect (harg9.unread x8) (ix2 0 0)
      = x8 (ix2 (i 0) 0) := by
    refine load_at arg9 harg9 x8 _ _ _ fun a => ?_
    simp only [Rect.off_unit, Rect.stride_unit, k0_off1_eq]
    fin_cases a <;> simp [ix2]
  have k : kernelRun0_A.sl.v143 (F := Ideal) c i arg9 harg9 x8 = x8 (ix2 (i 0) 0) := by
    unfold kernelRun0_A.sl.v143 extractAt
    refine (congrArg _ (funext fun a => ?_)).trans e
    fin_cases a <;> rfl
  have q : Scalar.subi (Scalar.extui (Scalar.cmpi CmpIPredicate.sgt 4#32 0#32)) (Scalar.extui (Scalar.cmpi CmpIPredicate.slt 4#32 0#32))
      = 1#32 := by decide
  have r := quarter_kernel (x8 (ix2 (i 0) 0))
  rw [q] at r
  rw [← r, ← k]
  unfold kernelRun0_A.sl.v160 kernelRun0_A.sl.v158 kernelRun0_A.sl.v159 kernelRun0_A.sl.v157 kernelRun0_A.sl.v156 kernelRun0_A.sl.v155
    kernelRun0_A.sl.v149 kernelRun0_A.sl.v148 kernelRun0_A.sl.v147 kernelRun0_A.sl.v146 kernelRun0_A.sl.v145 kernelRun0_A.sl.v144
  rfl

/-- The tokens of a sequence, as the body leaves them. -/
theorem out9_at (x : Fin 128 → Fin 2048 → EReal) (w1 : Fin 512 → Fin 128 → Fin 4 → EReal) (b1 : Fin 512 → EReal)
    (w2 : Fin 512 → Fin 512 → Fin 4 → EReal) (b2 : Fin 512 → EReal) (wp : Fin 512 → Fin 64 → EReal) (bp : Fin 64 → EReal)
    (cb : Fin 1024 → Fin 64 → EReal)
    (hx : ∀ ch s, x0 (ix3 0 ch s) = x ch s) (hw1 : ∀ k ch o, x1 (ix3 k ch o) = w1 o ch k) (hb1 : ∀ o, x2 (ix2 0 o) = b1 o)
    (hw2 : ∀ k ch o, x3 (ix3 k ch o) = w2 o ch k) (hb2 : ∀ o, x4 (ix2 0 o) = b2 o) (hwp : ∀ o d, x5 (ix2 o d) = wp o d)
    (hbp : ∀ d, x6 (ix2 0 d) = bp d) (hcb : ∀ d k, x7 (ix2 d k) = cb k d) (k₀ : Fin 512 → Fin 1024)
    (hmax : ∀ t k, score (codes x w1 b1 w2 b2 wp bp t) (cb k) ≤ score (codes x w1 b1 w2 b2 wp bp t) (cb (k₀ t)))
    (hfirst : ∀ t k, k < k₀ t → score (codes x w1 b1 w2 b2 wp bp t) (cb k) < score (codes x w1 b1 w2 b2 wp bp t) (cb (k₀ t)))
    (j : Fin 514) :
    out0_A_9 (F := Ideal) c i arg1 harg1 arg2 harg2 arg3 harg3 arg4 harg4 arg5 harg5 arg6 harg6 arg7 harg7 arg8 harg8 arg9 harg9
        arg10 harg10 arg11 harg11 arg12 harg12 arg13 harg13 x0 x1 x2 x3 x4 x5 x6 x7 x8 (ix3 0 j 0)
      = place (quarter (x8 (ix2 (i 0) 0))) (fun t => BitVec.ofNat 32 (k₀ t)) j := by
  unfold out0_A_9 kernelRun0_A
  dsimp only
  rw [View.read_writes_apply_eq_canon _ _ _ _ ⟨_, List.mem_cons_self .., by
    dsimp only
    rw [Rect.mem_set_unit]
    intro a
    have := j.isLt
    fin_cases a <;> simp [ix3]⟩]
  refine (canon_at _ _ _ (ix3 0 j 0) _ (fun a => by fin_cases a <;> simp [ix3])).trans ?_
  have e : View.readAt (Elt Ideal) arg9.view (Rect.unit (s := S16x1) (k0_off1 i) S1x1.size (k0_off1_inb i)).toLoadRect (harg9.unread x8) (ix2 0 0)
      = x8 (ix2 (i 0) 0) := by
    refine load_at arg9 harg9 x8 _ _ _ fun a => ?_
    simp only [Rect.off_unit, Rect.stride_unit, k0_off1_eq]
    fin_cases a <;> simp [ix2]
  rw [← e]
  unfold kernelRun0_A.sl.r_9
  refine tokens_at _ _ _ (fun t k => score (codes x w1 b1 w2 b2 wp bp t) (cb k)) (fun t k => ?_) k₀ hmax hfirst j
  unfold kernelRun0_A.sl.r_8
  refine score_at _ _ (codes x w1 b1 w2 b2 wp bp) cb ?_ ?_ (fun d k => ?_) t k
  · exact codes_row c arg1 harg1 arg2 harg2 arg3 harg3 arg4 harg4 arg5 harg5 arg6 harg6 arg7 harg7 arg12 arg13 x0 x1 x2 x3 x4 x5 x6
      x w1 b1 w2 b2 wp bp hx hw1 hb1 hw2 hb2 hwp hbp
  · exact codes_one c arg1 harg1 arg2 harg2 arg3 harg3 arg4 harg4 arg5 harg5 arg6 harg6 arg7 harg7 arg12 arg13 x0 x1 x2 x3 x4 x5 x6
  · exact (load_at arg8 harg8 x7 _ _ (ix2 d k) (fun a => by fin_cases a <;> simp [ix2])).trans (hcb d k)

/-- The length of a sequence, as the body leaves it. -/
theorem out10_at :
    out0_A_10 (F := Ideal) c i arg1 harg1 arg2 harg2 arg3 harg3 arg4 harg4 arg5 harg5 arg6 harg6 arg7 harg7 arg8 harg8 arg9 harg9
        arg10 harg10 arg11 harg11 arg12 harg12 arg13 harg13 x0 x1 x2 x3 x4 x5 x6 x7 x8 (ix3 0 0 0)
      = quarter (x8 (ix2 (i 0) 0)) + 2#32 := by
  unfold out0_A_10 kernelRun0_A
  dsimp only
  rw [View.read_writes_apply_eq_canon _ _ _ _ ⟨_, List.mem_cons_self .., by
    dsimp only
    rw [Rect.mem_set_unit]
    intro a
    fin_cases a <;> simp [ix3]⟩]
  refine (canon_at _ _ _ (ix3 0 0 0) _ (fun a => by fin_cases a <;> simp [ix3])).trans ?_
  exact (length_at _).trans (congrArg (· + 2#32) (v160_eq c i arg9 harg9 x8))

end Body

end Cert.KernelIdeal.Val

end
-- ==== Proof.KernRun.lean ====
/-
  The kernel program's run: what its windows hold at each grid point, in terms of the launched arguments; what the two result
  arrays hold at the end.
-/
module

public import proofs.«01_k».proof.Proof.KernOut
public import Idealize.ShloMosaic.Lib.StableHlo.RunRead

@[expose] public section

set_option maxRecDepth 16384

noncomputable section

namespace Cert.KernelIdeal.Val

open Cert.KernelIdeal Cert.KernelIdeal.Gen Idealize.ShloMosaic Idealize.ShloMosaic.TcCoe Idealize.SL.Sem Cert.Spec

variable (m : (ℓ : Loc nD τ sig) → Buf (Elt Ideal) ℓ) (ρ : Dev nD → PrngReg)

/-! ## The arrays the windows read -/

/-- The first layer's weights, transposed. -/
theorem V_v0 (c : Dev nD) : V m c main_v0
    = transpose S4x128x512 [2, 1, 0] (m ((c : Thread nD τ).loc main_arg2)) transposes_S512x128x4_S4x128x512_2_1_0 := by
  show StableHlo.after hostOps0 _ (Proc.devRef .tc main_v0) = _
  after_results

/-- The second layer's weights, transposed. -/
theorem V_v1 (c : Dev nD) : V m c main_v1
    = transpose S4x512x512 [2, 1, 0] (m ((c : Thread nD τ).loc main_arg4)) transposes_S512x512x4_S4x512x512_2_1_0 := by
  show StableHlo.after hostOps0 _ (Proc.devRef .tc main_v1) = _
  after_results

/-- The first layer's bias, as a row. -/
theorem V_v2 (c : Dev nD) : V m c main_v2
    = broadcastInDim S1x512 ![1] bcast_S512_S1x512_1 (m ((c : Thread nD τ).loc main_arg3)) := by
  show StableHlo.after hostOps0 _ (Proc.devRef .tc main_v2) = _
  after_results

/-- The second layer's bias, as a row. -/
theorem V_v3 (c : Dev nD) : V m c main_v3
    = broadcastInDim S1x512 ![1] bcast_S512_S1x512_1 (m ((c : Thread nD τ).loc main_arg5)) := by
  show StableHlo.after hostOps0 _ (Proc.devRef .tc main_v3) = _
  after_results

/-- The projection's bias, as a row. -/
theorem V_v4 (c : Dev nD) : V m c main_v4
    = broadcastInDim S1x64 ![1] bcast_S64_S1x64_1 (m ((c : Thread nD τ).loc main_arg7)) := by
  show StableHlo.after hostOps0 _ (Proc.devRef .tc main_v4) = _
  after_results

/-- The rows to choose from, transposed. -/
theorem V_v5 (c : Dev nD) : V m c main_v5
    = transpose S64x1024 [1, 0] (m ((c : Thread nD τ).loc main_arg8)) transposes_S1024x64_S64x1024_1_0 := by
  show StableHlo.after hostOps0 _ (Proc.devRef .tc main_v5) = _
  after_results

/-- The lengths, as a column. -/
theorem V_v6 (c : Dev nD) : V m c main_v6
    = broadcastInDim S16x1 ![0] bcast_S16_S16x1_0 (m ((c : Thread nD τ).loc main_arg1)) := by
  show StableHlo.after hostOps0 _ (Proc.devRef .tc main_v6) = _
  after_results

/-! ## The windows' blocks, at an index -/

/-- Each step reads its own block of the features. -/
theorem idx0 : ∀ t : Fin cfg0.N, win0_0.index t (0 : Fin 3) = (grid0.coords t 0 : ℕ) ∧ win0_0.index t (1 : Fin 3) = 0 ∧ win0_0.index t (2 : Fin 3) = 0 :=
  (by decide +kernel : ∀ t : Fin grid0.N, _)
/-- Every step reads the whole of the first layer's weights. -/
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
/-- Every step reads the whole of the first layer's bias. -/
theorem idx2 : ∀ t : Fin cfg0.N, win0_2.index t (0 : Fin 2) = 0 ∧ win0_2.index t (1 : Fin 2) = 0 := (by decide +kernel : ∀ t : Fin grid0.N, _)
/-- Every step reads the whole of the second layer's weights. -/
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
/-- Every step reads the whole of the second layer's bias. -/
theorem idx4 : ∀ t : Fin cfg0.N, win0_4.index t (0 : Fin 2) = 0 ∧ win0_4.index t (1 : Fin 2) = 0 := (by decide +kernel : ∀ t : Fin grid0.N, _)
/-- Every step reads the whole of the projection's weights. -/
theorem idx5 : ∀ t : Fin cfg0.N, win0_5.index t (0 : Fin 2) = 0 ∧ win0_5.index t (1 : Fin 2) = 0 := (by decide +kernel : ∀ t : Fin grid0.N, _)
/-- Every step reads the whole of the projection's bias. -/
theorem idx6 : ∀ t : Fin cfg0.N, win0_6.index t (0 : Fin 2) = 0 ∧ win0_6.index t (1 : Fin 2) = 0 := (by decide +kernel : ∀ t : Fin grid0.N, _)
/-- Every step reads the whole of the codebook. -/
theorem idx7 : ∀ t : Fin cfg0.N, win0_7.index t (0 : Fin 2) = 0 ∧ win0_7.index t (1 : Fin 2) = 0 := (by decide +kernel : ∀ t : Fin grid0.N, _)
/-- Every step reads the whole of the lengths. -/
theorem idx8 : ∀ t : Fin cfg0.N, win0_8.index t (0 : Fin 2) = 0 ∧ win0_8.index t (1 : Fin 2) = 0 := (by decide +kernel : ∀ t : Fin grid0.N, _)
/-- A step writes its own block of the tokens. -/
theorem idx9 : ∀ t : Fin cfg0.N, win0_9.index t (0 : Fin 3) = (grid0.coords t 0 : ℕ) ∧ win0_9.index t (1 : Fin 3) = 0 ∧ win0_9.index t (2 : Fin 3) = 0 :=
  (by decide +kernel : ∀ t : Fin grid0.N, _)
/-- A step writes its own block of the lengths. -/
theorem idx10 : ∀ t : Fin cfg0.N, win0_10.index t (0 : Fin 3) = (grid0.coords t 0 : ℕ) ∧ win0_10.index t (1 : Fin 3) = 0 ∧ win0_10.index t (2 : Fin 3) = 0 :=
  (by decide +kernel : ∀ t : Fin grid0.N, _)

/-- The sequence's features. -/
theorem blk0 (c : Dev nD) (t : Fin cfg0.N) (ch : Fin 128) (s : Fin 2048) :
    iblk m c 0 t (ix3 0 ch s) = m ((c : Thread nD τ).loc main_arg0) (ix3 (grid0.coords t 0) ch s) := by
  obtain ⟨e0, e1, e2⟩ := idx0 t
  refine Eq.trans ?_ (congrFun (V_main_arg0 m c) _)
  show V m c main_arg0 (((cfg0.win 0).blk t).view.emb (ix3 0 ch s)) = V m c main_arg0 _
  refine congrArg _ (funext fun a => Fin.ext ?_)
  match a with
  | ⟨0, _⟩ => show win0_0.index t (0 : Fin 3) * 1 + 1 * 0 = (grid0.coords t 0 : ℕ); omega
  | ⟨1, _⟩ => show win0_0.index t (1 : Fin 3) * 128 + 1 * (ch : ℕ) = (ch : ℕ); omega
  | ⟨2, _⟩ => show win0_0.index t (2 : Fin 3) * 2048 + 1 * (s : ℕ) = (s : ℕ); omega

/-- The first layer's weights. -/
theorem blk1 (c : Dev nD) (t : Fin cfg0.N) (k : Fin 4) (ch : Fin 128) (o : Fin 512) :
    iblk m c 1 t (ix3 k ch o) = m ((c : Thread nD τ).loc main_arg2) (ix3 o ch k) := by
  obtain ⟨e0, e1, e2⟩ := idx1 t
  have e : iblk m c 1 t (ix3 k ch o) = V m c main_v0 (ix3 k ch o) := by
    show V m c main_v0 (((cfg0.win 1).blk t).view.emb (ix3 k ch o)) = V m c main_v0 _
    refine congrArg _ (funext fun a => Fin.ext ?_)
    match a with
    | ⟨0, _⟩ => show win0_1.index t (0 : Fin 3) * 4 + 1 * (k : ℕ) = (k : ℕ); omega
    | ⟨1, _⟩ => show win0_1.index t (1 : Fin 3) * 128 + 1 * (ch : ℕ) = (ch : ℕ); omega
    | ⟨2, _⟩ => show win0_1.index t (2 : Fin 3) * 512 + 1 * (o : ℕ) = (o : ℕ); omega
  rw [e, V_v0]
  generalize m ((c : Thread nD τ).loc main_arg2) = X
  pointwise

/-- The first layer's bias. -/
theorem blk2 (c : Dev nD) (t : Fin cfg0.N) (o : Fin 512) :
    iblk m c 2 t (ix2 0 o) = m ((c : Thread nD τ).loc main_arg3) (ix1 o) := by
  obtain ⟨e0, e1⟩ := idx2 t
  have e : iblk m c 2 t (ix2 0 o) = V m c main_v2 (ix2 0 o) := by
    show V m c main_v2 (((cfg0.win 2).blk t).view.emb (ix2 0 o)) = V m c main_v2 _
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * (o : ℕ) = (o : ℕ); omega
  rw [e, V_v2]
  generalize m ((c : Thread nD τ).loc main_arg3) = X
  pointwise

/-- The second layer's weights. -/
theorem blk3 (c : Dev nD) (t : Fin cfg0.N) (k : Fin 4) (ch : Fin 512) (o : Fin 512) :
    iblk m c 3 t (ix3 k ch o) = m ((c : Thread nD τ).loc main_arg4) (ix3 o ch k) := by
  obtain ⟨e0, e1, e2⟩ := idx3 t
  have e : iblk m c 3 t (ix3 k ch o) = V m c main_v1 (ix3 k ch o) := by
    show V m c main_v1 (((cfg0.win 3).blk t).view.emb (ix3 k ch o)) = V m c main_v1 _
    refine congrArg _ (funext fun a => Fin.ext ?_)
    match a with
    | ⟨0, _⟩ => show win0_3.index t (0 : Fin 3) * 4 + 1 * (k : ℕ) = (k : ℕ); omega
    | ⟨1, _⟩ => show win0_3.index t (1 : Fin 3) * 512 + 1 * (ch : ℕ) = (ch : ℕ); omega
    | ⟨2, _⟩ => show win0_3.index t (2 : Fin 3) * 512 + 1 * (o : ℕ) = (o : ℕ); omega
  rw [e, V_v1]
  generalize m ((c : Thread nD τ).loc main_arg4) = X
  pointwise

/-- The second layer's bias. -/
theorem blk4 (c : Dev nD) (t : Fin cfg0.N) (o : Fin 512) :
    iblk m c 4 t (ix2 0 o) = m ((c : Thread nD τ).loc main_arg5) (ix1 o) := by
  obtain ⟨e0, e1⟩ := idx4 t
  have e : iblk m c 4 t (ix2 0 o) = V m c main_v3 (ix2 0 o) := by
    show V m c main_v3 (((cfg0.win 4).blk t).view.emb (ix2 0 o)) = V m c main_v3 _
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * (o : ℕ) = (o : ℕ); omega
  rw [e, V_v3]
  generalize m ((c : Thread nD τ).loc main_arg5) = X
  pointwise

/-- The projection. -/
theorem blk5 (c : Dev nD) (t : Fin cfg0.N) (o : Fin 512) (d : Fin 64) :
    iblk m c 5 t (ix2 o d) = m ((c : Thread nD τ).loc main_arg6) (ix2 o d) := by
  obtain ⟨e0, e1⟩ := idx5 t
  refine Eq.trans ?_ (congrFun (V_main_arg6 m c) _)
  show V m c main_arg6 (((cfg0.win 5).blk t).view.emb (ix2 o d)) = V m c main_arg6 _
  refine congrArg _ (funext fun a => Fin.ext ?_)
  match a with
  | ⟨0, _⟩ => show win0_5.index t (0 : Fin 2) * 512 + 1 * (o : ℕ) = (o : ℕ); omega
  | ⟨1, _⟩ => show win0_5.index t (1 : Fin 2) * 64 + 1 * (d : ℕ) = (d : ℕ); omega

/-- The projection's bias. -/
theorem blk6 (c : Dev nD) (t : Fin cfg0.N) (d : Fin 64) :
    iblk m c 6 t (ix2 0 d) = m ((c : Thread nD τ).loc main_arg7) (ix1 d) := by
  obtain ⟨e0, e1⟩ := idx6 t
  have e : iblk m c 6 t (ix2 0 d) = V m c main_v4 (ix2 0 d) := by
    show V m c main_v4 (((cfg0.win 6).blk t).view.emb (ix2 0 d)) = V m c main_v4 _
    refine congrArg _ (funext fun a => Fin.ext ?_)
    match a with
    | ⟨0, _⟩ => show win0_6.index t (0 : Fin 2) * 1 + 1 * 0 = 0; omega
    | ⟨1, _⟩ => show win0_6.index t (1 : Fin 2) * 64 + 1 * (d : ℕ) = (d : ℕ); omega
  rw [e, V_v4]
  generalize m ((c : Thread nD τ).loc main_arg7) = X
  pointwise

/-- The rows to choose from. -/
theorem blk7 (c : Dev nD) (t : Fin cfg0.N) (d : Fin 64) (k : Fin 1024) :
    iblk m c 7 t (ix2 d k) = m ((c : Thread nD τ).loc main_arg8) (ix2 k d) := by
  obtain ⟨e0, e1⟩ := idx7 t
  have e : iblk m c 7 t (ix2 d k) = V m c main_v5 (ix2 d k) := by
    show V m c main_v5 (((cfg0.win 7).blk t).view.emb (ix2 d k)) = V m c main_v5 _
    refine congrArg _ (funext fun a => Fin.ext ?_)
    match a with
    | ⟨0, _⟩ => show win0_7.index t (0 : Fin 2) * 64 + 1 * (d : ℕ) = (d : ℕ); omega
    | ⟨1, _⟩ => show win0_7.index t (1 : Fin 2) * 1024 + 1 * (k : ℕ) = (k : ℕ); omega
  rw [e, V_v5]
  generalize m ((c : Thread nD τ).loc main_arg8) = X
  pointwise

/-- The lengths. -/
theorem blk8 (c : Dev nD) (t : Fin cfg0.N) (b : Fin 16) :
    iblk m c 8 t (ix2 b 0) = m ((c : Thread nD τ).loc main_arg1) (ix1 b) := by
  obtain ⟨e0, e1⟩ := idx8 t
  have e : iblk m c 8 t (ix2 b 0) = V m c main_v6 (ix2 b 0) := by
    show V m c main_v6 (((cfg0.win 8).blk t).view.emb (ix2 b 0)) = V m c main_v6 _
    refine congrArg _ (funext fun a => Fin.ext ?_)
    match a with
    | ⟨0, _⟩ => show win0_8.index t (0 : Fin 2) * 16 + 1 * (b : ℕ) = (b : ℕ); omega
    | ⟨1, _⟩ => show win0_8.index t (1 : Fin 2) * 1 + 1 * 0 = 0; omega
  rw [e, V_v6]
  generalize m ((c : Thread nD τ).loc main_arg1) = X
  pointwise

/-! ## The results as functions of the arguments -/

/-- The code vectors of sequence `b`, from the argument arrays. -/
def z (a0 : FVec Ideal S16x128x2048 .f32) (a2 : FVec Ideal S512x128x4 .f32) (a3 : FVec Ideal S512 .f32) (a4 : FVec Ideal S512x512x4 .f32)
    (a5 : FVec Ideal S512 .f32) (a6 : FVec Ideal S512x64 .f32) (a7 : FVec Ideal S64 .f32) (b : Fin 16) : Fin 512 → Fin 64 → EReal :=
  codes (fun ch s => a0 (ix3 b ch s)) (fun o ch k => a2 (ix3 o ch k)) (fun o => a3 (ix1 o)) (fun o ch k => a4 (ix3 o ch k))
    (fun o => a5 (ix1 o)) (fun o d => a6 (ix2 o d)) (fun d => a7 (ix1 d))

/-- The row of highest score, the first among equals. -/
def best (s : Fin 1024 → EReal) : Fin 1024 := Classical.choose (exists_first s)

/-- The tokens of all sequences. -/
def tokens (a0 : FVec Ideal S16x128x2048 .f32) (a1 : IVec S16 32) (a2 : FVec Ideal S512x128x4 .f32) (a3 : FVec Ideal S512 .f32)
    (a4 : FVec Ideal S512x512x4 .f32) (a5 : FVec Ideal S512 .f32) (a6 : FVec Ideal S512x64 .f32) (a7 : FVec Ideal S64 .f32)
    (a8 : FVec Ideal S1024x64 .f32) (b : Fin 16) (j : Fin 514) : BitVec 32 :=
  place (quarter (a1 (ix1 b))) (fun t => BitVec.ofNat 32 (best fun k => score (z a0 a2 a3 a4 a5 a6 a7 b t) fun d => a8 (ix2 k d))) j

/-- Two grid points with the same block of tokens are the same. -/
theorem idx_inj9 : ∀ t t' : Fin cfg0.N, win0_9.index t = win0_9.index t' → t = t' :=
  (by decide +kernel : ∀ t t' : Fin grid0.N, win0_9.index t = win0_9.index t' → t = t')

/-- Two grid points with the same block of lengths are the same. -/
theorem idx_inj10 : ∀ t t' : Fin cfg0.N, win0_10.index t = win0_10.index t' → t = t' :=
  (by decide +kernel : ∀ t t' : Fin grid0.N, win0_10.index t = win0_10.index t' → t = t')

/-- Every sequence has its grid point, and that point writes both blocks back. -/
theorem point : ∀ b : Fin 16, ∃ t : Fin cfg0.N, (grid0.coords t 0 : ℕ) = b ∧ (cfg0.win 9).flush t = true ∧ (cfg0.win 10).flush t = true :=
  (by decide +kernel : ∀ b : Fin 16, ∃ t : Fin grid0.N, (grid0.coords t 0 : ℕ) = b ∧ win0_9.flush t = true ∧ win0_10.flush t = true)

/-- The array of tokens when the region ends. -/
theorem final9 (c : Dev nD) (b : Fin 16) (j : Fin 514) : (dats m 0 c).arrAt 9 cfg0.N (ix3 b j 0)
    = tokens (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) b j := by
  obtain ⟨t, hb, hf, -⟩ := point b
  obtain rfl : grid0.coords t 0 = b := Fin.ext hb
  obtain ⟨e0, e1, e2⟩ := idx9 t
  have hj := (dats m 0 c).read_blk_arrAt_eq_flushed 9
    (fun t t' _ _ hne => (cfg0.win 9).disjoint_blk fun h => hne (idx_inj9 t t' h)) cfg0.N t t.isLt hf
  have hv : (dats m 0 c).arrAt 9 cfg0.N (((cfg0.win 9).blk t).view.emb (ix3 0 j 0)) = (outsAt0 m c t).1 (ix3 0 j 0) := by
    refine (congrFun hj (ix3 0 j 0)).trans ?_
    show (cfg0.win 9).cut (grid0.coords t) ((dats m 0 c).after 9 t) (ix3 0 j 0) = _
    rw [after0_9]
    rfl
  have he : ((cfg0.win 9).blk t).view.emb (ix3 0 j 0) = ix3 (grid0.coords t 0) j 0 := by
    refine funext fun a => Fin.ext ?_
    match a with
    | ⟨0, _⟩ => show win0_9.index t (0 : Fin 3) * 1 + 1 * 0 = (grid0.coords t 0 : ℕ); omega
    | ⟨1, _⟩ => show win0_9.index t (1 : Fin 3) * 514 + 1 * (j : ℕ) = (j : ℕ); omega
    | ⟨2, _⟩ => show win0_9.index t (2 : Fin 3) * 1 + 1 * 0 = 0; omega
  refine (congrArg _ he.symm).trans (hv.trans ?_)
  unfold outsAt0
  have hs := fun t' => Classical.choose_spec (exists_first fun k => score (z (m ((c : Thread nD τ).loc main_arg0))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (grid0.coords t 0) t') fun d => m ((c : Thread nD τ).loc main_arg8) (ix2 k d))
  dsimp only
  refine (out9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t)
    _ _ _ _ _ _ _ _ (blk0 m c t) (blk1 m c t) (blk2 m c t) (blk3 m c t) (blk4 m c t) (blk5 m c t) (blk6 m c t) (blk7 m c t)
    (fun t' => best _) (fun t' => (hs t').1) (fun t' => (hs t').2) j).trans ?_
  exact congrArg (fun l => place (quarter l) _ _) (blk8 m c t (grid0.coords t 0))

/-- The array of lengths when the region ends. -/
theorem final10 (c : Dev nD) (b : Fin 16) : (dats m 0 c).arrAt 10 cfg0.N (ix3 b 0 0)
    = quarter (m ((c : Thread nD τ).loc main_arg1) (ix1 b)) + 2#32 := by
  obtain ⟨t, hb, -, hf⟩ := point b
  obtain rfl : grid0.coords t 0 = b := Fin.ext hb
  obtain ⟨e0, e1, e2⟩ := idx10 t
  have hj := (dats m 0 c).read_blk_arrAt_eq_flushed 10
    (fun t t' _ _ hne => (cfg0.win 10).disjoint_blk fun h => hne (idx_inj10 t t' h)) cfg0.N t t.isLt hf
  have hv : (dats m 0 c).arrAt 10 cfg0.N (((cfg0.win 10).blk t).view.emb (ix3 0 0 0)) = (outsAt0 m c t).2 (ix3 0 0 0) := by
    refine (congrFun hj (ix3 0 0 0)).trans ?_
    show (cfg0.win 10).cut (grid0.coords t) ((dats m 0 c).after 10 t) (ix3 0 0 0) = _
    rw [after0_10]
    rfl
  have he : ((cfg0.win 10).blk t).view.emb (ix3 0 0 0) = ix3 (grid0.coords t 0) 0 0 := by
    refine funext fun a => Fin.ext ?_
    match a with
    | ⟨0, _⟩ => show win0_10.index t (0 : Fin 3) * 1 + 1 * 0 = (grid0.coords t 0 : ℕ); omega
    | ⟨1, _⟩ => show win0_10.index t (1 : Fin 3) * 1 + 1 * 0 = 0; omega
    | ⟨2, _⟩ => show win0_10.index t (2 : Fin 3) * 1 + 1 * 0 = 0; omega
  refine (congrArg _ he.symm).trans (hv.trans ?_)
  unfold outsAt0
  dsimp only
  refine (out10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t)).trans ?_
  exact congrArg (fun l => quarter l + 2#32) (blk8 m c t (grid0.coords t 0))

/-- The first result: the tokens' array without its last axis. -/
theorem tail8 (c : Dev nD) : Pipeline.afterTail₀ cfgs (dats m) 0 (V0 m) [hostOps1] c main_v8
    = shapeCast S16x514 ((dats m 0 c).arrAt 9 cfg0.N) shapeCasts_S16x514x1_S16x514 := by
  show StableHlo.after hostOps1 _ (Proc.devRef .tc main_v8) = _
  after_results
  have e := Pipeline.withArrays_arr spec0 (by decide) c (V0 m c) (fun w => (dats m 0 c).arrAt w cfg0.N) 9
  exact congrArg (fun X => shapeCast S16x514 X shapeCasts_S16x514x1_S16x514) e

/-- The second result: the lengths' array without its last axes. -/
theorem tail9 (c : Dev nD) : Pipeline.afterTail₀ cfgs (dats m) 0 (V0 m) [hostOps1] c main_v9
    = shapeCast S16 ((dats m 0 c).arrAt 10 cfg0.N) shapeCasts_S16x1x1_S16 := by
  show StableHlo.after hostOps1 _ (Proc.devRef .tc main_v9) = _
  after_results
  have e := Pipeline.withArrays_arr spec0 (by decide) c (V0 m c) (fun w => (dats m 0 c).arrAt w cfg0.N) 10
  exact congrArg (fun X => shapeCast S16 X shapeCasts_S16x1x1_S16) e

/-- The tokens at an index. -/
theorem tokens_final (c : Dev nD) (b : Fin 16) (j : Fin 514) :
    Pipeline.afterTail₀ cfgs (dats m) 0 (V0 m) [hostOps1] c main_v8 (ix2 b j)
      = tokens (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) b j := by
  rw [tail8, ← final9]
  generalize (dats m 0 c).arrAt 9 cfg0.N = X
  pointwise

/-- The lengths at an index. -/
theorem lengths_final (c : Dev nD) (b : Fin 16) :
    Pipeline.afterTail₀ cfgs (dats m) 0 (V0 m) [hostOps1] c main_v9 (ix1 b)
      = quarter (m ((c : Thread nD τ).loc main_arg1) (ix1 b)) + 2#32 := by
  rw [tail9, ← final10]
  generalize (dats m 0 c).arrAt 10 cfg0.N = X
  pointwise

/-- Every execution of the kernel program ends with the results read off the region's two arrays and with the arguments as launched. -/
theorem run : θ_run defs (onTc (τ := τ) (main (F := Ideal))) ⟨m, fun _ => 0, ρ⟩ (fun r => ∀ c : Dev nD,
      r.2.mem ((c.tc : Thread nD τ).loc main_v8) = Pipeline.afterTail₀ cfgs (dats m) 0 (V0 m) [hostOps1] c main_v8
      ∧ r.2.mem ((c.tc : Thread nD τ).loc main_v9) = Pipeline.afterTail₀ cfgs (dats m) 0 (V0 m) [hostOps1] c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  θ_run_mono (θ_run_and (run_main m ρ) (unchanged m ρ)) fun r h c =>
    ⟨(h.1 c).2 main_v8 (Pipeline.mem_restRefs_of main_v8 (by decide) (by decide)),
      (h.1 c).2 main_v9 (Pipeline.mem_restRefs_of main_v9 (by decide) (by decide)), h.2 c⟩

end Cert.KernelIdeal.Val

end
-- ==== Proof.Tie.lean ====
/-
  The two programs' results are one function of real arguments.
-/
module

public import proofs.«01_k».proof.Proof.RefVal
public import proofs.«01_k».proof.Proof.KernRun
public import proofs.«01_k».proof.Proof.Finite

@[expose] public section

set_option maxRecDepth 16384

noncomputable section

namespace Cert.Tie

open Idealize.ShloMosaic Cert.Spec Cert.ReferenceIdeal.Stage
open Cert.KernelIdeal.Val (z best tokens)

variable (a0 : FVec Ideal Cert.ReferenceIdeal.S16x128x2048 .f32) (a1 : IVec Cert.ReferenceIdeal.S16 32)
  (a2 : FVec Ideal Cert.ReferenceIdeal.S512x128x4 .f32) (a3 : FVec Ideal Cert.ReferenceIdeal.S512 .f32)
  (a4 : FVec Ideal Cert.ReferenceIdeal.S512x512x4 .f32) (a5 : FVec Ideal Cert.ReferenceIdeal.S512 .f32)
  (a6 : FVec Ideal Cert.ReferenceIdeal.S512x64 .f32) (a7 : FVec Ideal Cert.ReferenceIdeal.S64 .f32)
  (a8 : FVec Ideal Cert.ReferenceIdeal.S1024x64 .f32)
variable (h0 : ∀ i, IsReal (a0 i)) (h2 : ∀ i, IsReal (a2 i)) (h3 : ∀ i, IsReal (a3 i)) (h4 : ∀ i, IsReal (a4 i))
  (h5 : ∀ i, IsReal (a5 i)) (h6 : ∀ i, IsReal (a6 i)) (h7 : ∀ i, IsReal (a7 i)) (h8 : ∀ i, IsReal (a8 i))

include h0 h2 h3 h4 h5 h6 h7 in
/-- The kernel's code vectors of real arguments are real. -/
theorem z_real (b : Fin 16) (t : Fin 512) (d : Fin 64) : IsReal (z a0 a2 a3 a4 a5 a6 a7 b t d) :=
  codes_real (fun _ _ => h0 _) (fun _ _ _ => h2 _) (fun _ => h3 _) (fun _ _ _ => h4 _) (fun _ => h5 _) (fun _ _ => h6 _)
    (fun _ => h7 _) t d

include h0 h2 h3 h4 h5 h6 h7 h8 in
/-- The reference's nearest row is the row the kernel scores best. -/
theorem row_eq (b : Fin 16) (t : Fin 512) :
    f_argmin (F := Ideal) (f_dist (F := Ideal) (f_codes (F := Ideal) a0 a2 a3 a4 a5 a6 a7) a8) (ix2 b t)
      = BitVec.ofNat 32 (best fun k => score (z a0 a2 a3 a4 a5 a6 a7 b t) fun d => a8 (ix2 k d)) := by
  have hb := Classical.choose_spec (exists_first fun k => score (z a0 a2 a3 a4 a5 a6 a7 b t) fun d => a8 (ix2 k d))
  obtain ⟨n1, n2, n3⟩ := nearest (z_real a0 a2 a3 a4 a5 a6 a7 h0 h2 h3 h4 h5 h6 h7 b t) (r := fun k d => a8 (ix2 k d))
    (fun k d => h8 _) hb.1 hb.2
  refine argmin_at _ b t _ (fun k => Spec.dist (z a0 a2 a3 a4 a5 a6 a7 b t) fun d => a8 (ix2 k d)) (fun k => ?_) n1 n2 n3
  refine (dist_at _ a8 b t k).trans (congrArg (fun v => Spec.dist v fun d => a8 (ix2 k d)) (funext fun d => ?_))
  exact codes_at a0 a2 a3 a4 a5 a6 a7 b t d

include h0 h2 h3 h4 h5 h6 h7 h8 in
/-- The reference's tokens are the kernel's. -/
theorem tokens_eq (b : Fin 16) (j : Fin 514) :
    f_toks (F := Ideal) (f_fdiv (F := Ideal) a1) (f_argmin (F := Ideal) (f_dist (F := Ideal) (f_codes (F := Ideal) a0 a2 a3 a4 a5 a6 a7) a8)) (ix2 b j)
      = tokens a0 a1 a2 a3 a4 a5 a6 a7 a8 b j := by
  refine (toks_at _ _ b j).trans ?_
  rw [fdiv_at]
  exact congrArg (fun f => place (quarter (a1 (ix1 b))) f j)
    (funext fun t => row_eq a0 a2 a3 a4 a5 a6 a7 a8 h0 h2 h3 h4 h5 h6 h7 h8 b t)

/-- The reference's lengths are the kernel's. -/
theorem lengths_eq (b : Fin 16) : f_lens (F := Ideal) (f_fdiv (F := Ideal) a1) (ix1 b) = quarter (a1 (ix1 b)) + 2#32 := by
  rw [lens_at, fdiv_at, BitVec.add_assoc]
  rfl

end Cert.Tie

end
-- ==== Proof.lean ====
/-
  The certificate, assembled: the three programs run to the end from any memory with their arguments kept, and from real
  arguments the idealized kernel and the reference leave the same tokens and the same lengths.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.RefRun
public import proofs.«01_k».proof.Proof.Pre
public import proofs.«01_k».proof.Proof.Tie
public import Idealize.ShloMosaic.Lib.Claim
public import Idealize.ShloMosaic.Adequacy
public import Idealize.ShloMosaic.Init

@[expose] public section

set_option maxRecDepth 16384
set_option maxHeartbeats 4000000

noncomputable section

namespace Cert.Proof

open Idealize.ShloMosaic Idealize.SL.Sem

/-- The reference's frame: it runs to the end, keeping its arguments. -/
theorem frame_reference : quiescent_ReferenceIdeal := fun m g _ => Cert.ReferenceIdeal.Stage.frame m g

/-- The kernel's frame. -/
theorem frame_kernel : quiescent_Kernel := fun m g _ => Cert.Kernel.Gen.frame m g

/-- The idealized kernel's frame. -/
theorem frame_kernel_ideal : quiescent_KernelIdeal := fun m g _ => Cert.KernelIdeal.Gen.frame m g

/-- The shape relations of the precondition. -/
instance pre_facts : Cert.Pre_finite.Facts := Cert.Pre_finite.facts

/-- The reference's frame from real arguments, a case of its frame. -/
theorem frame_reference_finite : quiescent_ReferenceIdeal_pre_finite := fun m g _ => Cert.ReferenceIdeal.Stage.frame m g

/-- The idealized kernel's frame from real arguments, a case of its frame. -/
theorem frame_kernel_ideal_finite : quiescent_KernelIdeal_pre_finite := fun m g _ => Cert.KernelIdeal.Gen.frame m g

/-- From real arguments the idealized kernel and the reference end with the same tokens and the same lengths. -/
theorem same_results : algebraic_KernelIdeal_ReferenceIdeal_pre_finite := by
  intro m g m' g' hpre hagree
  refine ⟨_, _, Cert.KernelIdeal.Val.run m g, θ_run_mono (Cert.ReferenceIdeal.Stage.run (F := Ideal) m' g') fun r h c => ?_⟩
  obtain ⟨e0, e1, e2, e3, e4, e5, e6, e7, e8⟩ := hagree c
  obtain ⟨k0, k2, k3, k4, k5, k6, k7, k8⟩ := Cert.Pre_finite.real _ _ _ _ _ _ _ _ _ (hpre c)
  obtain ⟨ht, hl, hrest⟩ := h c
  refine ⟨ht.trans ?_, hl.trans ?_, hrest⟩
  · rw [e0, e1, e2, e3, e4, e5, e6, e7, e8]
    funext y
    rw [show y = ix2 (y 0) (y 1) from funext fun i => by fin_cases i <;> rfl]
    exact (Cert.Tie.tokens_eq _ _ _ _ _ _ _ _ _ k0 k2 k3 k4 k5 k6 k7 k8 (y 0) (y 1)).trans
      (Cert.KernelIdeal.Val.tokens_final m c (y 0) (y 1)).symm
  · rw [e1]
    funext y
    rw [show y = ix1 (y 0) from funext fun i => by fin_cases i <;> rfl]
    exact (Cert.Tie.lengths_eq _ (y 0)).trans (Cert.KernelIdeal.Val.lengths_final m c (y 0)).symm

/-- Everything claimed, with the shape relations the programs and the precondition state. -/
theorem claim : Cert.Claim :=
  ⟨Cert.Kernel.Gen.facts, Cert.KernelIdeal.Gen.facts, Cert.ReferenceIdeal.Gen.facts, Cert.Pre_finite.facts,
    frame_kernel, frame_kernel_ideal, frame_kernel_ideal_finite, frame_reference, frame_reference_finite, trivial, same_results⟩

end Cert.Proof

end
